-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv448" .f32 0x3B124925#32 ((448⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S2x512x2048 : Shape := ⟨3, ![2, 512, 2048]⟩
abbrev S4x128 : Shape := ⟨2, ![4, 128]⟩
abbrev S4 : Shape := ⟨1, ![4]⟩
abbrev S2 : Shape := ⟨1, ![2]⟩
abbrev S_ : Shape := ⟨0, ![]⟩
abbrev S1 : Shape := ⟨1, ![1]⟩
abbrev S1x512x2048 : Shape := ⟨3, ![1, 512, 2048]⟩
abbrev S512x2048 : Shape := ⟨2, ![512, 2048]⟩
abbrev S1024x1024 : Shape := ⟨2, ![1024, 1024]⟩
abbrev S1x1024x1024 : Shape := ⟨3, ![1, 1024, 1024]⟩
abbrev S1024x512 : Shape := ⟨2, ![1024, 512]⟩
abbrev S1x1024x512 : Shape := ⟨3, ![1, 1024, 512]⟩
abbrev S1x1024x2048 : Shape := ⟨3, ![1, 1024, 2048]⟩
abbrev S1x1x1 : Shape := ⟨3, ![1, 1, 1]⟩
abbrev S1x128 : Shape := ⟨2, ![1, 128]⟩
abbrev S1x4x128 : Shape := ⟨3, ![1, 4, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S4096x1024, .bf16⟩
  | .local _ .vmem, ⟨3, _⟩ => ⟨S4x1024x1024, .bf16⟩
  | .local _ .vmem, ⟨4, _⟩ => ⟨S2x512x2048, .f32⟩
  | .local _ .vmem, ⟨5, _⟩ => ⟨S4x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c0_i32_28 : BitVec 32) (c0_i32_57 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v43 : BitVec 32 := Scalar.addi v2 c0_i32_28
  let c4_i32_29 : BitVec 32 := 4#32
  let c0_i32_30 : BitVec 32 := 0#32
  let v44 : BitVec 1 := Scalar.cmpi .eq c4_i32_29 c0_i32_30
  let c1_i32_31 : BitVec 32 := 1#32
  let v45 : BitVec 32 := Scalar.select v44 c1_i32_31 c4_i32_29
  let v46 : BitVec 32 := Scalar.remsi v43 v45
  let c0_i32_33 : BitVec 32 := 0#32
  let v48 : BitVec 1 := Scalar.cmpi .slt v46 c0_i32_33
  let c0_i32_34 : BitVec 32 := 0#32
  let v49 : BitVec 1 := Scalar.cmpi .slt v45 c0_i32_34
  let v50 : BitVec 1 := Scalar.xori v48 v49
  let c0_i32_32 : BitVec 32 := 0#32
  let v47 : BitVec 1 := Scalar.cmpi .ne v46 c0_i32_32
  let v51 : BitVec 1 := Scalar.andi v50 v47
  let v52 : BitVec 32 := Scalar.addi v46 v45
  let v53 : BitVec 32 := Scalar.select v51 v52 v46
  let c2_i32_56 : BitVec 32 := 2#32
  let v87 : BitVec 32 := Scalar.muli v53 c2_i32_56
  let v88 : BitVec 32 := Scalar.addi v87 c0_i32_57
  let c512_i32 : BitVec 32 := 512#32
  let v103 : BitVec 32 := Scalar.muli v88 c512_i32
  let c0_i32_76 : BitVec 32 := 0#32
  ![v103.toNat, 0]
def k0_off2 (d0 : Dev nD) (c1_i32_83 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v115 : BitVec 32 := Scalar.addi v2 c1_i32_83
  let c4_i32_84 : BitVec 32 := 4#32
  let c0_i32_85 : BitVec 32 := 0#32
  let v116 : BitVec 1 := Scalar.cmpi .eq c4_i32_84 c0_i32_85
  let c1_i32_86 : BitVec 32 := 1#32
  let v117 : BitVec 32 := Scalar.select v116 c1_i32_86 c4_i32_84
  let v118 : BitVec 32 := Scalar.remsi v115 v117
  let c0_i32_88 : BitVec 32 := 0#32
  let v120 : BitVec 1 := Scalar.cmpi .slt v118 c0_i32_88
  let c0_i32_89 : BitVec 32 := 0#32
  let v121 : BitVec 1 := Scalar.cmpi .slt v117 c0_i32_89
  let v122 : BitVec 1 := Scalar.xori v120 v121
  let c0_i32_87 : BitVec 32 := 0#32
  let v119 : BitVec 1 := Scalar.cmpi .ne v118 c0_i32_87
  let v123 : BitVec 1 := Scalar.andi v122 v119
  let v124 : BitVec 32 := Scalar.addi v118 v117
  let v125 : BitVec 32 := Scalar.select v123 v124 v118
  let c1024_i32 : BitVec 32 := 1024#32
  let v126 : BitVec 32 := Scalar.muli v125 c1024_i32
  let v127 : Index := Scalar.indexCast v126
  let c0 : Index := 0#32
  ![v127.toNat, 0]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_96 : BitVec 32 := 0#32
  let c0_i32_97 : BitVec 32 := 0#32
  ![v2.toNat, 0, 0]
def k0_off5 (d0 : Dev nD) (c1_i32_83 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v115 : BitVec 32 := Scalar.addi v2 c1_i32_83
  let c4_i32_84 : BitVec 32 := 4#32
  let c0_i32_85 : BitVec 32 := 0#32
  let v116 : BitVec 1 := Scalar.cmpi .eq c4_i32_84 c0_i32_85
  let c1_i32_86 : BitVec 32 := 1#32
  let v117 : BitVec 32 := Scalar.select v116 c1_i32_86 c4_i32_84
  let v118 : BitVec 32 := Scalar.remsi v115 v117
  let c0_i32_88 : BitVec 32 := 0#32
  let v120 : BitVec 1 := Scalar.cmpi .slt v118 c0_i32_88
  let c0_i32_89 : BitVec 32 := 0#32
  let v121 : BitVec 1 := Scalar.cmpi .slt v117 c0_i32_89
  let v122 : BitVec 1 := Scalar.xori v120 v121
  let c0_i32_87 : BitVec 32 := 0#32
  let v119 : BitVec 1 := Scalar.cmpi .ne v118 c0_i32_87
  let v123 : BitVec 1 := Scalar.andi v122 v119
  let v124 : BitVec 32 := Scalar.addi v118 v117
  let v125 : BitVec 32 := Scalar.select v123 v124 v118
  let c1024_i32_92 : BitVec 32 := 1024#32
  let v136 : BitVec 32 := Scalar.muli v125 c1024_i32_92
  let c0_i32_98 : BitVec 32 := 0#32
  ![v136.toNat, 0]
def k0_dev4 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_83 : BitVec 32 := 1#32
  let v115 : BitVec 32 := Scalar.addi v2 c1_i32_83
  let c4_i32_84 : BitVec 32 := 4#32
  let c0_i32_85 : BitVec 32 := 0#32
  let v116 : BitVec 1 := Scalar.cmpi .eq c4_i32_84 c0_i32_85
  let c1_i32_86 : BitVec 32 := 1#32
  let v117 : BitVec 32 := Scalar.select v116 c1_i32_86 c4_i32_84
  let v118 : BitVec 32 := Scalar.remsi v115 v117
  let c0_i32_88 : BitVec 32 := 0#32
  let v120 : BitVec 1 := Scalar.cmpi .slt v118 c0_i32_88
  let c0_i32_89 : BitVec 32 := 0#32
  let v121 : BitVec 1 := Scalar.cmpi .slt v117 c0_i32_89
  let v122 : BitVec 1 := Scalar.xori v120 v121
  let c0_i32_87 : BitVec 32 := 0#32
  let v119 : BitVec 1 := Scalar.cmpi .ne v118 c0_i32_87
  let v123 : BitVec 1 := Scalar.andi v122 v119
  let v124 : BitVec 32 := Scalar.addi v118 v117
  let v125 : BitVec 32 := Scalar.select v123 v124 v118
  let c1_i32_94 : BitVec 32 := 1#32
  let v137 : BitVec 32 := Scalar.muli v125 c1_i32_94
  let v138 : BitVec 32 := Scalar.addi c0_i32_95 v137
  v138.toNat
def k0_dev5 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_99 : BitVec 32 := 2#32
  let v146 : BitVec 32 := Scalar.addi v2 c2_i32_99
  let c4_i32_100 : BitVec 32 := 4#32
  let c0_i32_101 : BitVec 32 := 0#32
  let v147 : BitVec 1 := Scalar.cmpi .eq c4_i32_100 c0_i32_101
  let c1_i32_102 : BitVec 32 := 1#32
  let v148 : BitVec 32 := Scalar.select v147 c1_i32_102 c4_i32_100
  let v149 : BitVec 32 := Scalar.remsi v146 v148
  let c0_i32_104 : BitVec 32 := 0#32
  let v151 : BitVec 1 := Scalar.cmpi .slt v149 c0_i32_104
  let c0_i32_105 : BitVec 32 := 0#32
  let v152 : BitVec 1 := Scalar.cmpi .slt v148 c0_i32_105
  let v153 : BitVec 1 := Scalar.xori v151 v152
  let c0_i32_103 : BitVec 32 := 0#32
  let v150 : BitVec 1 := Scalar.cmpi .ne v149 c0_i32_103
  let v154 : BitVec 1 := Scalar.andi v153 v150
  let v155 : BitVec 32 := Scalar.addi v149 v148
  let v156 : BitVec 32 := Scalar.select v154 v155 v149
  let c1_i32_112 : BitVec 32 := 1#32
  let v168 : BitVec 32 := Scalar.muli v156 c1_i32_112
  let v169 : BitVec 32 := Scalar.addi c0_i32_113 v168
  v169.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_117 : BitVec 32 := 3#32
  let v177 : BitVec 32 := Scalar.addi v2 c3_i32_117
  let c4_i32_118 : BitVec 32 := 4#32
  let c0_i32_119 : BitVec 32 := 0#32
  let v178 : BitVec 1 := Scalar.cmpi .eq c4_i32_118 c0_i32_119
  let c1_i32_120 : BitVec 32 := 1#32
  let v179 : BitVec 32 := Scalar.select v178 c1_i32_120 c4_i32_118
  let v180 : BitVec 32 := Scalar.remsi v177 v179
  let c0_i32_122 : BitVec 32 := 0#32
  let v182 : BitVec 1 := Scalar.cmpi .slt v180 c0_i32_122
  let c0_i32_123 : BitVec 32 := 0#32
  let v183 : BitVec 1 := Scalar.cmpi .slt v179 c0_i32_123
  let v184 : BitVec 1 := Scalar.xori v182 v183
  let c0_i32_121 : BitVec 32 := 0#32
  let v181 : BitVec 1 := Scalar.cmpi .ne v180 c0_i32_121
  let v185 : BitVec 1 := Scalar.andi v184 v181
  let v186 : BitVec 32 := Scalar.addi v180 v179
  let v187 : BitVec 32 := Scalar.select v185 v186 v180
  let c1_i32_130 : BitVec 32 := 1#32
  let v199 : BitVec 32 := Scalar.muli v187 c1_i32_130
  let v200 : BitVec 32 := Scalar.addi c0_i32_131 v199
  v200.toNat
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_135 : BitVec 32 := 1024#32
  let v208 : BitVec 32 := Scalar.muli v2 c1024_i32_135
  let v209 : Index := Scalar.indexCast v208
  let c0_136 : Index := 0#32
  ![v209.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_144 : BitVec 32 := 1024#32
  let v223 : BitVec 32 := Scalar.muli v2 c1024_i32_144
  let v224 : Index := Scalar.indexCast v223
  let c0_145 : Index := 0#32
  ![v224.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_162 : BitVec 32 := 1024#32
  let v242 : BitVec 32 := Scalar.muli v2 c1024_i32_162
  let v243 : Index := Scalar.indexCast v242
  let c512 : Index := 512#32
  ![v243.toNat, 512]
def k0_off9 (d0 : Dev nD) (c3_i32_35 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  ![v64.toNat]
def k0_off10 (d0 : Dev nD) (c3_i32_35 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let c0_i32_179 : BitVec 32 := 0#32
  let c0_i32_180 : BitVec 32 := 0#32
  ![v64.toNat, 0, 0]
def k0_off11 (d0 : Dev nD) (c3_i32_35 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let v272 : Index := Scalar.indexCast v64
  let c0_188 : Index := 0#32
  let c0_189 : Index := 0#32
  ![v272.toNat, 0, 0]
def k0_off12 (d0 : Dev nD) (c3_i32_35 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.addi v2 c3_i32_35
  let c4_i32_36 : BitVec 32 := 4#32
  let c0_i32_37 : BitVec 32 := 0#32
  let v55 : BitVec 1 := Scalar.cmpi .eq c4_i32_36 c0_i32_37
  let c1_i32_38 : BitVec 32 := 1#32
  let v56 : BitVec 32 := Scalar.select v55 c1_i32_38 c4_i32_36
  let v57 : BitVec 32 := Scalar.remsi v54 v56
  let c0_i32_40 : BitVec 32 := 0#32
  let v59 : BitVec 1 := Scalar.cmpi .slt v57 c0_i32_40
  let c0_i32_41 : BitVec 32 := 0#32
  let v60 : BitVec 1 := Scalar.cmpi .slt v56 c0_i32_41
  let v61 : BitVec 1 := Scalar.xori v59 v60
  let c0_i32_39 : BitVec 32 := 0#32
  let v58 : BitVec 1 := Scalar.cmpi .ne v57 c0_i32_39
  let v62 : BitVec 1 := Scalar.andi v61 v58
  let v63 : BitVec 32 := Scalar.addi v57 v56
  let v64 : BitVec 32 := Scalar.select v62 v63 v57
  let v294 : Index := Scalar.indexCast v64
  let c0_209 : Index := 0#32
  let c512_210 : Index := 512#32
  ![v294.toNat, 0, 512]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v426 : Index := Scalar.indexCast v2
  let c0_329 : Index := 0#32
  ![v426.toNat, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_340 : BitVec 32 := 0#32
  ![v2.toNat, 0]
def k0_dev7 (d0 : Dev nD) : Nat :=
  let c0_i32_339 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_330 : BitVec 32 := 1#32
  let v430 : BitVec 32 := Scalar.addi v2 c1_i32_330
  let c4_i32_331 : BitVec 32 := 4#32
  let c0_i32_332 : BitVec 32 := 0#32
  let v431 : BitVec 1 := Scalar.cmpi .eq c4_i32_331 c0_i32_332
  let c1_i32_333 : BitVec 32 := 1#32
  let v432 : BitVec 32 := Scalar.select v431 c1_i32_333 c4_i32_331
  let v433 : BitVec 32 := Scalar.remsi v430 v432
  let c0_i32_335 : BitVec 32 := 0#32
  let v435 : BitVec 1 := Scalar.cmpi .slt v433 c0_i32_335
  let c0_i32_336 : BitVec 32 := 0#32
  let v436 : BitVec 1 := Scalar.cmpi .slt v432 c0_i32_336
  let v437 : BitVec 1 := Scalar.xori v435 v436
  let c0_i32_334 : BitVec 32 := 0#32
  let v434 : BitVec 1 := Scalar.cmpi .ne v433 c0_i32_334
  let v438 : BitVec 1 := Scalar.andi v437 v434
  let v439 : BitVec 32 := Scalar.addi v433 v432
  let v440 : BitVec 32 := Scalar.select v438 v439 v433
  let c1_i32_338 : BitVec 32 := 1#32
  let v441 : BitVec 32 := Scalar.muli v440 c1_i32_338
  let v442 : BitVec 32 := Scalar.addi c0_i32_339 v441
  v442.toNat
def k0_dev8 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_342 : BitVec 32 := 2#32
  let v449 : BitVec 32 := Scalar.addi v2 c2_i32_342
  let c4_i32_343 : BitVec 32 := 4#32
  let c0_i32_344 : BitVec 32 := 0#32
  let v450 : BitVec 1 := Scalar.cmpi .eq c4_i32_343 c0_i32_344
  let c1_i32_345 : BitVec 32 := 1#32
  let v451 : BitVec 32 := Scalar.select v450 c1_i32_345 c4_i32_343
  let v452 : BitVec 32 := Scalar.remsi v449 v451
  let c0_i32_347 : BitVec 32 := 0#32
  let v454 : BitVec 1 := Scalar.cmpi .slt v452 c0_i32_347
  let c0_i32_348 : BitVec 32 := 0#32
  let v455 : BitVec 1 := Scalar.cmpi .slt v451 c0_i32_348
  let v456 : BitVec 1 := Scalar.xori v454 v455
  let c0_i32_346 : BitVec 32 := 0#32
  let v453 : BitVec 1 := Scalar.cmpi .ne v452 c0_i32_346
  let v457 : BitVec 1 := Scalar.andi v456 v453
  let v458 : BitVec 32 := Scalar.addi v452 v451
  let v459 : BitVec 32 := Scalar.select v457 v458 v452
  let c1_i32_350 : BitVec 32 := 1#32
  let v460 : BitVec 32 := Scalar.muli v459 c1_i32_350
  let v461 : BitVec 32 := Scalar.addi c0_i32_351 v460
  v461.toNat
def k0_dev9 (d0 : Dev nD) : Nat :=
  let c0_i32_363 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_354 : BitVec 32 := 3#32
  let v468 : BitVec 32 := Scalar.addi v2 c3_i32_354
  let c4_i32_355 : BitVec 32 := 4#32
  let c0_i32_356 : BitVec 32 := 0#32
  let v469 : BitVec 1 := Scalar.cmpi .eq c4_i32_355 c0_i32_356
  let c1_i32_357 : BitVec 32 := 1#32
  let v470 : BitVec 32 := Scalar.select v469 c1_i32_357 c4_i32_355
  let v471 : BitVec 32 := Scalar.remsi v468 v470
  let c0_i32_359 : BitVec 32 := 0#32
  let v473 : BitVec 1 := Scalar.cmpi .slt v471 c0_i32_359
  let c0_i32_360 : BitVec 32 := 0#32
  let v474 : BitVec 1 := Scalar.cmpi .slt v470 c0_i32_360
  let v475 : BitVec 1 := Scalar.xori v473 v474
  let c0_i32_358 : BitVec 32 := 0#32
  let v472 : BitVec 1 := Scalar.cmpi .ne v471 c0_i32_358
  let v476 : BitVec 1 := Scalar.andi v475 v472
  let v477 : BitVec 32 := Scalar.addi v471 v470
  let v478 : BitVec 32 := Scalar.select v476 v477 v471
  let c1_i32_362 : BitVec 32 := 1#32
  let v479 : BitVec 32 := Scalar.muli v478 c1_i32_362
  let v480 : BitVec 32 := Scalar.addi c0_i32_363 v479
  v480.toNat
def k0_off15 (d0 : Dev nD) (c1_i32_366 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v487 : BitVec 32 := Scalar.addi v2 c1_i32_366
  let c4_i32_367 : BitVec 32 := 4#32
  let c0_i32_368 : BitVec 32 := 0#32
  let v488 : BitVec 1 := Scalar.cmpi .eq c4_i32_367 c0_i32_368
  let c1_i32_369 : BitVec 32 := 1#32
  let v489 : BitVec 32 := Scalar.select v488 c1_i32_369 c4_i32_367
  let v490 : BitVec 32 := Scalar.remsi v487 v489
  let c0_i32_371 : BitVec 32 := 0#32
  let v492 : BitVec 1 := Scalar.cmpi .slt v490 c0_i32_371
  let c0_i32_372 : BitVec 32 := 0#32
  let v493 : BitVec 1 := Scalar.cmpi .slt v489 c0_i32_372
  let v494 : BitVec 1 := Scalar.xori v492 v493
  let c0_i32_370 : BitVec 32 := 0#32
  let v491 : BitVec 1 := Scalar.cmpi .ne v490 c0_i32_370
  let v495 : BitVec 1 := Scalar.andi v494 v491
  let v496 : BitVec 32 := Scalar.addi v490 v489
  let v497 : BitVec 32 := Scalar.select v495 v496 v490
  let c0_i32_376 : BitVec 32 := 0#32
  ![v497.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== KernelIdeal.lean ====
variable {F : FTy → Type} [FloatOps F] [Named F]
def κ : String → Option EReal := fun
  | "inv448" => some ((448⁻¹ : ℝ) : EReal)
  | _ => none
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Same.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact
public import Idealize.ShloMosaic.PureOps.Ideal

@[expose] public section

noncomputable section

namespace Cert.Proof

open Idealize.ShloMosaic

/-- At the bit level a named constant is the literal it stands for. -/
@[reducible] def namedBits : Named Bits where
  named _ _ φ bits := Scalar.ofBits φ bits

attribute [local instance] namedBits

attribute [local instance] Cert.Kernel.Gen.facts Cert.KernelIdeal.Gen.facts

/-- The two printed programs have the same buffers and semaphores. -/
theorem sig_eq : Cert.Kernel.sig = Cert.KernelIdeal.sig := rfl

theorem body_eq : @Cert.Kernel.cc0_body Bits _ _ = @Cert.KernelIdeal.cc0_body Bits _ _ _ := by
  funext a0 a1 a2 a3 a4 a5 a6 a7 a8 a9 a10 a11 a12 a13 a14 a15 a16 a17 a18
  unfold Cert.Kernel.cc0_body Cert.KernelIdeal.cc0_body
  rfl

theorem defs0_eq : Cert.Kernel.defs₀ (F := Bits) = Cert.KernelIdeal.defs₀ (F := Bits) := by
  unfold Cert.Kernel.defs₀ Cert.KernelIdeal.defs₀
  refine congrArg (Defs.onTc (nD := 4)) (funext fun l => funext fun a => ?_)
  match l, a with
  | 0, (t, s) => exact congrArg (fun f : type_of% (@Cert.Kernel.cc0_body Bits _ _) =>
      f _ _ _ _ _ _ _ _ _ _ _ _ _ _ _ _ _ _ _) body_eq
  | ⟨_ + 1, h⟩, _ => exact absurd h (Nat.not_lt.2 (Nat.le_add_left _ _))

theorem main_eq : Cert.Kernel.main (F := Bits) = Cert.KernelIdeal.main (F := Bits) := rfl

theorem defs_eq : Cert.Kernel.defs (F := Bits) = Cert.KernelIdeal.defs (F := Bits) :=
  congrArg (Pipeline.defs (Cert.Kernel.pcfgs (F := Bits))) defs0_eq

end Cert.Proof

end
-- ==== Proof.Cells.lean ====
/-
# The cells of the kernel: its resources, contents and schedule

Device `c` of the four truncates its rows of `x`, sends block `c + d` to device `c + d`, and adds up the product
of the blocks it holds with the rows of `w` copied in halves; then the maxima go around and the result is scaled.
Every semaphore is a cell with a schedule: what one wait on it hands over, round by round.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds' resources, duties named by `Fin 4`. -/
abbrev UB : Type := URounds (GSem nD τ sig) (Fin 4)
/-- The pipeline library's resources beside the kernel's own. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

abbrev 𝒱₀ : Variants := Variants.none

/-! ## The rectangles -/

theorem inb_row (k : Fin 4) : ∀ a, (![1024 * k.val, 0] : Fin 2 → ℕ) a + S1024x1024.size a ≤ S4096x1024.size a := by
  revert k; decide
theorem inb_slot (k : Fin 4) : ∀ a, (![k.val, 0, 0] : Fin 3 → ℕ) a + S1x1024x1024.size a ≤ S4x1024x1024.size a := by
  revert k; decide
theorem inb_half (b : Fin 2) : ∀ a, (![b.val, 0, 0] : Fin 3 → ℕ) a + S1x512x2048.size a ≤ S2x512x2048.size a := by
  revert b; decide
theorem inb_wrow (k : Fin 4) (b : Fin 2) : ∀ a, (![512 * (2 * k.val + b.val), 0] : Fin 2 → ℕ) a + S512x2048.size a ≤ S4096x2048.size a := by
  revert k b; decide
theorem inb_am (k : Fin 4) : ∀ a, (![k.val, 0] : Fin 2 → ℕ) a + S1x128.size a ≤ S4x128.size a := by
  revert k; decide
theorem inb_xh (k : Fin 4) (b : Fin 2) : ∀ a, (![1024 * k.val, 512 * b.val] : Fin 2 → ℕ) a + S1024x512.size a ≤ S4096x1024.size a := by
  revert k b; decide
theorem inb_gh (k : Fin 4) (b : Fin 2) : ∀ a, (![k.val, 0, 512 * b.val] : Fin 3 → ℕ) a + S1x1024x512.size a ≤ S4x1024x1024.size a := by
  revert k b; decide

/-- Rows of block `k` of `x`. -/
abbrev rowR (k : Fin 4) : Rect S4096x1024 := Rect.unit (s := S4096x1024) ![1024 * k.val, 0] S1024x1024.size (inb_row k)
/-- The landing slot of the block coming from device `k`. -/
abbrev slotR (k : Fin 4) : Rect S4x1024x1024 := Rect.unit (s := S4x1024x1024) ![k.val, 0, 0] S1x1024x1024.size (inb_slot k)
/-- Half `b` of the staging of `w`. -/
abbrev halfR (b : Fin 2) : Rect S2x512x2048 := Rect.unit (s := S2x512x2048) ![b.val, 0, 0] S1x512x2048.size (inb_half b)
/-- Half `b` of the rows of block `k` of `w`. -/
abbrev wrowR (k : Fin 4) (b : Fin 2) : Rect S4096x2048 := Rect.unit (s := S4096x2048) ![512 * (2 * k.val + b.val), 0] S512x2048.size (inb_wrow k b)
/-- Device `k`'s row of the maxima. -/
abbrev amR (k : Fin 4) : Rect S4x128 := Rect.unit (s := S4x128) ![k.val, 0] S1x128.size (inb_am k)
/-- Column half `b` of the rows of block `k`. -/
abbrev xhR (k : Fin 4) (b : Fin 2) : Rect S4096x1024 := Rect.unit (s := S4096x1024) ![1024 * k.val, 512 * b.val] S1024x512.size (inb_xh k b)
/-- Column half `b` of slot `k`. -/
abbrev ghR (k : Fin 4) (b : Fin 2) : Rect S4x1024x1024 := Rect.unit (s := S4x1024x1024) ![k.val, 0, 512 * b.val] S1x1024x512.size (inb_gh k b)

/-! ## Contents -/

/-- Device `c`'s block of `x`, as staged. -/
def xF (c : Dev nD) : (cc0_stg0_0 : Ref sig .tc).ty.Contents (Elt F) :=
  (win0_0.blk (0 : Fin 1)).view.read (Elt F) ((s₀ m ρ).mem ((c : Thread nD τ).loc main_arg0))
/-- It truncated. -/
def xbF (c : Dev nD) : (cc0_scratch0 : Ref sig .tc).ty.Contents (Elt F) :=
  (truncf (F := F) .bf16 (xF m ρ c : FVec F S4096x1024 .f32) bitsLt_bf16_f32 : FVec F S4096x1024 .bf16)
/-- Place `(i, j)` of block `c`. -/
def inRow (c : Fin 4) (i : S4x1024x1024.Idx) : S4096x1024.Idx := fun a => match a with
  | ⟨0, _⟩ => ⟨1024 * c.val + (i 1).val, by have h1 := (i 1).isLt; have := c.isLt; show _ < 4096; change _ < 1024 at h1; omega⟩
  | ⟨1, _⟩ => ⟨(i 2).val, (i 2).isLt⟩
/-- What device `c` has gathered when every block has landed: slot `k` is block `c` of device `k`'s rows. -/
def xgF (c : Dev nD) : (cc0_scratch1 : Ref sig .tc).ty.Contents (Elt F) :=
  fun (i : S4x1024x1024.Idx) => xbF m ρ (i 0) (inRow c i)
/-- Device `c`'s `w`. -/
def wF (c : Dev nD) : (main_arg1 : Ref sig .tc).ty.Contents (Elt F) := m ((c : Thread nD τ).loc main_arg1)
/-- Place `i` of the staging holding block `k`. -/
def inBlk (k : Fin 4) (i : S2x512x2048.Idx) : S4096x2048.Idx := fun a => match a with
  | ⟨0, _⟩ => ⟨512 * (2 * k.val + (i 0).val) + (i 1).val, by
      have h0 := (i 0).isLt; have h1 := (i 1).isLt; have := k.isLt; change _ < 2 at h0; change _ < 512 at h1; show _ < 4096; omega⟩
  | ⟨1, _⟩ => ⟨(i 2).val, (i 2).isLt⟩
/-- The staging of `w` holding block `k`. -/
def wbF (c : Dev nD) (k : Fin 4) : (cc0_scratch2 : Ref sig .tc).ty.Contents (Elt F) :=
  fun (i : S2x512x2048.Idx) => wF m c (inBlk k i)

/-- What the loads read. -/
def xo (c : Dev nD) (b : Fin 2) : Vec F S1024x512 .bf16 := fun i => xbF m ρ c ((xhR c b).idx i)
def xs (c : Dev nD) (k : Fin 4) (b : Fin 2) : Vec F S1x1024x512 .bf16 := fun i => xgF m ρ c ((ghR k b).idx i)
def ws (c : Dev nD) (k : Fin 4) (b : Fin 2) : Vec F S1x512x2048 .f32 := fun i => wbF m c k ((halfR b).idx i)

/-- The accumulator after each of the eight products. -/
def acc0 (c : Dev nD) : FVec F S1024x2048 .f32 := k0_pay7 (xo m ρ c 0) (ws m c c 0)
def acc1 (c : Dev nD) : FVec F S1024x2048 .f32 := k0_pay8 (xo m ρ c 1) (ws m c c 1) (acc0 m ρ c)
def acc2 (c : Dev nD) : FVec F S1024x2048 .f32 := k0_pay9 (xs m ρ c (c + 3) 0) (ws m c (c + 3) 0) (acc1 m ρ c)
def acc3 (c : Dev nD) : FVec F S1024x2048 .f32 := k0_pay9 (xs m ρ c (c + 3) 1) (ws m c (c + 3) 1) (acc2 m ρ c)
def acc4 (c : Dev nD) : FVec F S1024x2048 .f32 := k0_pay9 (xs m ρ c (c + 2) 0) (ws m c (c + 2) 0) (acc3 m ρ c)
def acc5 (c : Dev nD) : FVec F S1024x2048 .f32 := k0_pay9 (xs m ρ c (c + 2) 1) (ws m c (c + 2) 1) (acc4 m ρ c)
def acc6 (c : Dev nD) : FVec F S1024x2048 .f32 := k0_pay9 (xs m ρ c (c + 1) 0) (ws m c (c + 1) 0) (acc5 m ρ c)
def acc7 (c : Dev nD) : FVec F S1024x2048 .f32 := k0_pay9 (xs m ρ c (c + 1) 1) (ws m c (c + 1) 1) (acc6 m ρ c)

/-- The maxima of all devices, a row each. -/
def amF : (cc0_scratch3 : Ref sig .tc).ty.Contents (Elt F) :=
  fun (i : S4x128.Idx) => k0_pay19 (acc7 m ρ (i 0)) (fun a => match a with | ⟨0, _⟩ => ⟨0, Nat.one_pos⟩ | ⟨1, _⟩ => ⟨(i 1).val, (i 1).isLt⟩)
/-- The result on device `c`. -/
def outF (c : Dev nD) : (cc0_stg1_0 : Ref sig .tc).ty.Contents (Elt F) := k0_pay1 (amF m ρ) (acc7 m ρ c)

/-! ## The cells -/

/-- Part of a buffer of device `c`. -/
abbrev pc (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

abbrev barS : Sem sig := (SemArray.scalar (sig.barrier 0 rfl) : Sems sig S_).sem

/-- The semaphores by purpose. -/
def sendQ (d : Fin 4) : DmaSem sig := (⟨2 + d.val, by omega⟩ : Fin 20)
def recvQ (k : Fin 4) : DmaSem sig := (⟨6 + k.val, by omega⟩ : Fin 20)
def wQ (b : Fin 2) : DmaSem sig := (⟨10 + b.val, by omega⟩ : Fin 20)
def asendQ (d : Fin 4) : DmaSem sig := (⟨12 + d.val, by omega⟩ : Fin 20)
def arecvQ (k : Fin 4) : DmaSem sig := (⟨16 + k.val, by omega⟩ : Fin 20)

/-- What a semaphore is for. -/
inductive Use where
  | bar | idle | send (d : Fin 4) | recv (k : Fin 4) | wst (b : Fin 2) | asend (d : Fin 4) | arecv (k : Fin 4)
  deriving DecidableEq

/-- The use of each transfer semaphore. -/
def useD : Fin 20 → Use := ![.idle, .idle, .send 0, .send 1, .send 2, .send 3, .recv 0, .recv 1, .recv 2, .recv 3, .wst 0, .wst 1,
  .asend 0, .asend 1, .asend 2, .asend 3, .arecv 0, .arecv 1, .arecv 2, .arecv 3]
/-- The use of each semaphore. -/
def use : SemLoc sig → Use
  | .reg _ => .bar
  | .dma q => useD q

theorem use_send (d : Fin 4) : use (.dma (sendQ d)) = .send d := by revert d; decide
theorem use_recv (d : Fin 4) : use (.dma (recvQ d)) = .recv d := by revert d; decide
theorem use_w (d : Fin 2) : use (.dma (wQ d)) = .wst d := by revert d; decide
theorem use_asend (d : Fin 4) : use (.dma (asendQ d)) = .asend d := by revert d; decide
theorem use_arecv (d : Fin 4) : use (.dma (arecvQ d)) = .arecv d := by revert d; decide

/-- The duties of round `r` of a cell of device `c`. -/
def dutiesU (c : Fin 4) : Use → ℕ → Finset (Fin 4)
  | .bar, 0 => {1, 2, 3}
  | .send d, 0 => if d = 0 then ∅ else {0}
  | .recv k, 0 => if k = c then ∅ else {0}
  | .wst _, r => if r < 4 then {0} else ∅
  | .asend d, 0 => if d = 0 then ∅ else {0}
  | .arecv k, 0 => if k = c then ∅ else {0}
  | _, _ => ∅

/-- The block of `w` staged in round `r`. -/
def blk (c : Fin 4) (r : ℕ) : Fin 4 := ⟨(c.val + (4 - r)) % 4, Nat.mod_lt _ (by decide)⟩

/-- The bytes a transfer counts. -/
def NX : ℕ := ((Memref.whole cc0_scratch0 : Memref sig .tc .vmem S4096x1024 .bf16).slice (rowR 0) (fun _ => rfl)).view.dmaCredit
def NW : ℕ := (((Memref.whole cc0_scratch2 : Memref sig .tc .vmem S2x512x2048 .f32).slice (halfR 0) (fun _ => rfl)).squeeze S512x2048 squeezes_S1x512x2048_S512x2048).view.dmaCredit
def NA : ℕ := ((Memref.whole cc0_scratch3 : Memref sig .tc .vmem S4x128 .f32).slice (amR 0) (fun _ => rfl)).view.dmaCredit

theorem NX_pos : 0 < NX := View.dmaCredit_pos _ (by decide)
theorem NW_pos : 0 < NW := View.dmaCredit_pos _ (by decide)
theorem NA_pos : 0 < NA := View.dmaCredit_pos _ (by decide)

/-- What one duty of a cell adds to it. -/
def amountU : Use → ℕ
  | .bar => 1
  | .idle => 1
  | .send _ => NX
  | .recv _ => NX
  | .wst _ => NW
  | .asend _ => NA
  | .arecv _ => NA

theorem amountU_pos : (u : Use) → 0 < amountU u
  | .bar => Nat.one_pos
  | .idle => Nat.one_pos
  | .send _ => NX_pos
  | .recv _ => NX_pos
  | .wst _ => NW_pos
  | .asend _ => NA_pos
  | .arecv _ => NA_pos

/-- The share of the maxima row lent to copy `d`. -/
def shr (d : Fin 4) : PosShare TreeShare := match d with
  | 0 => fullShare | 1 => fullShare.left | 2 => fullShare.right.left | 3 => fullShare.right.right

/-- What duty `d` of round `r` of a cell of device `c` hands over. -/
def payU (c : Dev nD) : Use → ℕ → Fin 4 → sProp 𝕄
  | .bar, _, d => iprop((∃ f, pc (c - d) cc0_scratch1 (slotR c).set fullShare f) ∗ ∃ f, pc (c - d) cc0_scratch3 (amR c).set fullShare f)
  | .idle, _, _ => iprop(emp)
  | .send d, _, _ => pc c cc0_scratch0 (rowR (c + d)).set fullShare (xbF m ρ c)
  | .recv k, _, _ => pc c cc0_scratch1 (slotR k).set fullShare (xgF m ρ c)
  | .wst b, r, _ => iprop(pc c cc0_scratch2 (halfR b).set fullShare (wbF m c (blk c r)) ∗ pc c main_arg1 (wrowR (blk c r) b).set fullShare (wF m c))
  | .asend d, _, _ => pc c cc0_scratch3 (amR c).set (shr d) (amF m ρ)
  | .arecv k, _, _ => pc c cc0_scratch3 (amR k).set fullShare (amF m ρ)

instance payU_storable (c : Dev nD) (u : Use) (r : ℕ) (d : Fin 4) : BI.Storable (upEmb : UEmb _ 𝕄) (payU m ρ c u r d) := by
  cases u <;> unfold payU <;> infer_instance

/-- The schedule of all cells. -/
def Rd : Rounds.Schedule (GSem nD τ sig) (Fin 4) 𝕄 where
  duties g r := if g.1.2 = .tc then dutiesU g.1.1 (use g.2) r else ∅
  unitless _ := False
  amount g _ _ := amountU (use g.2)
  payload g r d := payU m ρ g.1.1 (use g.2) r d
  amount_pos g _ _ _ := amountU_pos _

instance Rd_storable (g : GSem nD τ sig) (r : ℕ) (d : Fin 4) : BI.Storable (upEmb : UEmb _ 𝕄) ((Rd (F := F) m ρ).payload g r d) :=
  payU_storable m ρ _ _ _ _

/-- The semaphores of a device that the kernel uses, numbered. -/
def csem (j : Fin 19) : SemLoc sig := if j.val = 0 then .reg barS else .dma (⟨j.val + 1, by omega⟩ : Fin 20)
abbrev kcell (cj : Dev nD × Fin 19) : GSem nD τ sig := ((cj.1 : Thread nD τ), csem cj.2)
abbrev barC (c : Dev nD) : GSem nD τ sig := ((c : Thread nD τ), .reg barS)
abbrev dC (c : Dev nD) (q : DmaSem sig) : GSem nD τ sig := ((c : Thread nD τ), .dma q)

theorem csem_injective : Function.Injective csem := by decide
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem csem_dma (q : Fin 20) (h : 2 ≤ q.val) : ∃ j : Fin 19, csem j = .dma q := by
  refine ⟨⟨q.val - 1, by omega⟩, ?_⟩
  unfold csem; rw [if_neg (by show ¬(q.val - 1 = 0); omega)]
  exact congrArg SemLoc.dma (Fin.ext (by show q.val - 1 + 1 = q.val; omega))

/-- Every cell's invariant, and that its first round is reached. -/
def recs (K : Dev nD × Fin 19 → ℕ) : sProp 𝕄 :=
  iprop((bigSep Finset.univ fun ck : Dev nD × Fin 19 => cellInv ER (Rd m ρ) (K ck) (kcell ck))
    ∗ bigSep Finset.univ fun ck : Dev nD × Fin 19 => reached ER (kcell ck) 0)

instance recs_persistent (K : Dev nD × Fin 19 → ℕ) : BI.Persistent (recs m ρ K) := by unfold recs; infer_instance

theorem inv_at (K : Dev nD × Fin 19 → ℕ) (ck : Dev nD × Fin 19) :
    (bigSep Finset.univ fun ck : Dev nD × Fin 19 => (cellInv ER (Rd m ρ) (K ck) (kcell ck) : sProp 𝕄)) ⊢ cellInv ER (Rd m ρ) (K ck) (kcell ck) :=
  bigSep_elim (Finset.mem_univ ck)
theorem reached_at (ck : Dev nD × Fin 19) :
    (bigSep Finset.univ fun ck : Dev nD × Fin 19 => (reached ER (kcell ck) 0 : sProp 𝕄)) ⊢ reached ER (kcell ck) 0 :=
  bigSep_elim (Finset.mem_univ ck)

/-- One cell's invariant and mark. -/
theorem recs_cell (K : Dev nD × Fin 19 → ℕ) (ck : Dev nD × Fin 19) :
    recs m ρ K ⊢ iprop(∃ κ, cellInv ER (Rd m ρ) κ (kcell ck) ∗ reached ER (kcell ck) 0) := by
  unfold recs
  iintro ⟨#HI, #HR⟩
  iexists (K ck)
  isplitl
  · iapply (inv_at m ρ K ck); iexact HI
  · iapply (reached_at (F := F) ck); iexact HR

theorem recs_bar (K : Dev nD × Fin 19 → ℕ) (c : Dev nD) :
    recs m ρ K ⊢ iprop(∃ κ, cellInv ER (Rd m ρ) κ (barC c) ∗ reached ER (barC c) 0) := recs_cell m ρ K (c, 0)

theorem recs_dma (K : Dev nD × Fin 19 → ℕ) (c : Dev nD) (q : DmaSem sig) (h : 2 ≤ (show Fin 20 from q).val) :
    recs m ρ K ⊢ iprop(∃ κ, cellInv ER (Rd m ρ) κ (dC c q) ∗ reached ER (dC c q) 0) := by
  obtain ⟨j, hj⟩ := csem_dma q h
  have := recs_cell m ρ K (c, j)
  rw [show kcell (c, j) = dC c q from congrArg (Prod.mk _) hj] at this
  exact this

/-! ## Levels and debts -/

def L (g : GSem nD τ sig) : Finset Unit := if g.1.2 = .tc then {()} else ∅
def lvU : Use → ℕ
  | .bar => 1
  | .recv _ => 2
  | .arecv _ => 3
  | _ => 0
def lv (g : GSem nD τ sig) (_ : Unit) : ℕ := lvU (use g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → L g = {()} ∧ n < lv g ()

theorem above_zero (n : ℕ) : Above n (0 : CellTallies nD τ sig Unit) := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (N : ℕ) (h : n < lvU (use sm)) :
    Above n (tallyAt ((c : Thread nD τ), sm) () N : CellTallies nD τ sig Unit) := fun g u hg => by
  rw [tallyAt_apply] at hg
  by_cases hh : g = ((c : Thread nD τ), sm) ∧ u = ()
  · rw [hh.1]; exact ⟨L_tc _ _, h⟩
  · rw [if_neg hh] at hg; exact absurd hg (Nat.lt_irrefl 0)

/-- A wait on a cell at level `n` is allowed when everything owed is above. -/
theorem mayWait (c : Dev nD) (sm : SemLoc sig) {O : CellTallies nD τ sig Unit} (h : Above (lvU (use sm)) O) :
    (levAts L lv : sProp 𝕄) ⊢ MayWait (c : Thread nD τ) sm () O :=
  MayOwe.of_cut (L := L) (lev := lv) (lvU (use sm)) (fun p hp => by rw [Finset.mem_singleton.mp hp, L_tc]; exact Finset.mem_singleton_self _)
    (fun g u hg => by rw [(h g u hg).1]; exact Finset.mem_singleton_self _)
    (fun p hp => by rw [Finset.mem_singleton.mp hp]; exact le_rfl)
    (fun g u hg => (h g u hg).2)

/-- Device `c` owes `O`. -/
def ow (c : Dev nD) (O : CellTallies nD τ sig Unit) : sProp 𝕄 := iprop(∃ W, owes (c : Thread nD τ) O W)

end Cert.Proof.Run

end
-- ==== Proof.Steps.lean ====
/-
# One step of the kernel at a time

Each operation of the kernel as a rule over parts of buffers at whole-buffer contents: a load, a store, a copy of half
a block of `w`, a row block sent, a row of maxima sent, the signals and the waits.
-/
module

public import proofs.«01_k».proof.Proof.Cells

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The program `p` of device `c` ends in `Q`. -/
abbrev W {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Writing through a view -/

theorem write_on {κ : Kind} {sp : Space} {s : Shape} {e : EltTy} (v : View sig κ sp s e) (f g : v.ty.Contents (Elt F)) (w : s.Idx → Elt F e)
    (h : w = v.read (Elt F) g) : ∀ i ∈ v.set, v.write (Elt F) f w Finset.univ i = g i := by
  intro i hi
  rw [h, View.write_read_eq_piecewise]
  exact Finset.piecewise_eq_of_mem _ _ _ hi

theorem write_pts (c : Dev nD) {sp : Space} {s : Shape} {e : EltTy} (v : View sig .tc sp s e) (f g : Buf (Elt F) (v.loc (c : Thread nD τ))) (w : s.Idx → Elt F e)
    (h : w = v.read (Elt F) g) :
    (v.loc (c : Thread nD τ) ↦[v.set]{fullShare} (v.write (Elt F) f w Finset.univ) : sProp 𝕄) = (v.loc (c : Thread nD τ) ↦[v.set]{fullShare} g) :=
  pointsTo_congr (write_on v f g w h)

/-- Dropping the leading unit axis of a block. -/
theorem reshape_lead {a b : ℕ} (h : (⟨2, ![a, b]⟩ : Shape).numel = (⟨3, ![1, a, b]⟩ : Shape).numel) (x : (⟨2, ![a, b]⟩ : Shape).Idx) :
    (Shape.reshapeEquiv h x 1).val = (x 0).val ∧ (Shape.reshapeEquiv h x 2).val = (x 1).val := by
  have : Shape.reshapeEquiv h x = (fun j => match j with | ⟨0, _⟩ => ⟨0, Nat.one_pos⟩ | ⟨1, _⟩ => x 0 | ⟨2, _⟩ => x 1 : (⟨3, ![1, a, b]⟩ : Shape).Idx) :=
    Shape.reshapeEquiv_eq_of_rowMajor h (by
      rw [Shape.rowMajor_val_two, Shape.rowMajor_val_three]
      show (0 * a + (x 0).val) * b + (x 1).val = (x 0).val * b + (x 1).val
      rw [Nat.zero_mul, Nat.zero_add])
  rw [this]; exact ⟨rfl, rfl⟩

section Steps
variable {α : Type} {Q : α → sProp (MT nD τ sig Unit (Elt F) ℕ UU ℕ)} (c : Dev nD)

/-- A load of a rectangle lying in the part held. -/
theorem st_load {cs : CoreSpace} {s : Shape} {e : EltTy} {M : Memref sig .tc (.core cs) s e} {off off' size : Fin s.rank → ℕ}
    {inb : ∀ a, off a + size a ≤ s.size a} (hoff : off = off') {inb' : ∀ a, off' a + size a ≤ s.size a}
    {hl : M.view.LoadsAt (Rect.unit (s := s) off size inb).toLoadRect}
    {k : ((Rect.unit (s := s) off size inb).shape.Idx → Elt F e) → Prog (TpuEff nD τ sig (Elt F) Λ₀ .tc) α}
    {S : Finset (Idx (M.view.loc (c : Thread nD τ)))} {q : PosShare TreeShare} {f : Buf (Elt F) (M.view.loc (c : Thread nD τ))}
    (hS : ∀ x ∈ (Rect.unit (s := s) off' size inb').set, M.view.emb x ∈ S)
    (v : (Rect.unit (s := s) off size inb).shape.Idx → Elt F e)
    (hv : ∀ i, M.view.read (Elt F) f ((Rect.unit (s := s) off' size inb').idx i) = v i) :
    (M.view.loc (c : Thread nD τ) ↦[S]{q} f : sProp 𝕄) ⊢ iprop(((M.view.loc (c : Thread nD τ) ↦[S]{q} f) -∗ W c (k v) Q)
      -∗ W c (.op (.load M (Rect.unit (s := s) off size inb).toLoadRect hl) k) Q) := by
  subst hoff
  obtain rfl : M.view.readAt (Elt F) (Rect.unit (s := s) off size inb).toLoadRect f = v := funext hv
  exact wp_load 𝒱₀ (c : Thread nD τ) none Set.univ (by
    intro y hy
    obtain ⟨x, hx, rfl⟩ := Finset.mem_map.mp hy
    exact hS x hx)

/-- A store filling the part held. -/
theorem st_store {cs : CoreSpace} {s : Shape} {e : EltTy} {M : Memref sig .tc (.core cs) s e} {off off' size : Fin s.rank → ℕ}
    {inb : ∀ a, off a + size a ≤ s.size a} (hoff : off = off') {inb' : ∀ a, off' a + size a ≤ s.size a}
    {w : (Rect.unit (s := s) off size inb).shape.Idx → Elt F e}
    {hx : (M.access (Rect.unit (s := s) off size inb)).Stores Finset.univ} {hm}
    {k : PUnit → Prog (TpuEff nD τ sig (Elt F) Λ₀ .tc) α}
    {S : Finset (Idx (M.view.loc (c : Thread nD τ)))} {f : Buf (Elt F) (M.view.loc (c : Thread nD τ))}
    (hS : (M.access (Rect.unit (s := s) off' size inb')).set = S)
    (g : Buf (Elt F) (M.view.loc (c : Thread nD τ)))
    (hg : ∀ i, w i = (M.access (Rect.unit (s := s) off' size inb')).read (Elt F) g i) :
    (M.view.loc (c : Thread nD τ) ↦[S]{fullShare} f : sProp 𝕄) ⊢ iprop(((M.view.loc (c : Thread nD τ) ↦[S]{fullShare} g) -∗ W c (k ⟨⟩) Q)
      -∗ W c (.op (.store M (Rect.unit (s := s) off size inb) w Finset.univ hx hm) k) Q) := by
  subst hoff
  subst hS
  have he := write_pts c (M.access (Rect.unit (s := s) off size inb)) f g w (funext hg)
  iintro H Hk
  iapply (wp_store 𝒱₀ (c : Thread nD τ) none Set.univ (m := M) (r := Rect.unit (s := s) off size inb) (f := f) (le_of_eq (View.setOn_univ _))) $$ H
  iintro H
  iapply Hk
  ihave H' := (Entails.of_eq he) $$ H
  iexact H'

/-! ## Signals and waits -/

theorem Rd_duties (c : Dev nD) (sm : SemLoc sig) (r : ℕ) : (Rd m ρ).duties ((c : Thread nD τ), sm) r = dutiesU c (use sm) r := by
  simp [Rd]

theorem Rd_payload (c : Dev nD) (sm : SemLoc sig) (r : ℕ) (d : Fin 4) {u : Use} (hu : use sm = u) :
    (Rd m ρ).payload ((c : Thread nD τ), sm) r d = payU m ρ c u r d := by
  subst hu; rfl

theorem Rd_expect (c : Dev nD) (sm : SemLoc sig) (r : ℕ) :
    (Rd m ρ).expect ((c : Thread nD τ), sm) r = (dutiesU c (use sm) r).card * amountU (use sm) := by
  unfold Rounds.Schedule.expect
  rw [Rd_duties]
  exact (Finset.sum_const _).trans (smul_eq_mul _ _)

/-- What device `p` lends device `c`: its landing places for `c`. -/
def lent (p c : Dev nD) : sProp 𝕄 :=
  iprop((∃ f, pc (F := F) p cc0_scratch1 (slotR c).set fullShare f) ∗ ∃ f, pc (F := F) p cc0_scratch3 (amR c).set fullShare f)

theorem pay_bar {p c : Dev nD} {d : Fin 4} (h : c - d = p) : payU m ρ c .bar 0 d = lent (F := F) p c := by
  subst h; rfl

/-- Device `c` signals the barrier of device `c + d`, handing its landing places over. -/
theorem st_signal (K : Dev nD × Fin 19 → ℕ) (d : Fin 4) (hd : d ∈ ({1, 2, 3} : Finset (Fin 4))) {t : Dev nD} (ht : t = c + d) {n : ℤ} (hn : n = 1)
    {k : PUnit → Prog (TpuEff nD τ sig (Elt F) Λ₀ .tc) α} (O : CellTallies nD τ sig Unit) :
    iprop(recs m ρ K ∗ ow c (O + tallyAt (barC (c + d)) () 1) ∗ dutyTok ER (barC (c + d)) 0 d
        ∗ lent (F := F) c (c + d))
      ⊢ iprop((ow c O -∗ W c (k ⟨⟩) Q) -∗ W c (.op (.semSignal (Dev.tc t) barS n) k) Q) := by
  subst ht hn
  unfold ow
  iintro ⟨#HR, ⟨%w, Ho⟩, Ht, Hs⟩ Hk
  ihave Hc := (recs_bar m ρ K (c + d)) $$ HR
  icases Hc with ⟨%κ, #HI, #Hr⟩
  iapply (Rounds.wp_signal 𝒱₀ ER (Rd m ρ) (c : Thread nD τ) none (κ := κ) (r := 0) (d := d)
    (by rw [Rd_duties]; exact hd) rfl () O rfl) $$ [Ho Ht Hs]
  · isplitr; · iexact HI
    isplitl [Ho]; · iexact Ho
    isplitl [Ht]; · iexact Ht
    isplitl [Hs]
    · rw [Rd_payload m ρ (c + d) (.reg barS) 0 d (u := .bar) rfl, pay_bar m ρ (c := c + d) (d := d) (p := c) (by revert c d; decide)]
      iexact Hs
    iexact Hr
  iintro Ho
  iapply Hk
  iexists _; iexact Ho

/-- Device `c` waits for the three others. -/
theorem st_barwait (K : Dev nD × Fin 19 → ℕ) {n : ℤ} (hn : n = 3) {k : PUnit → Prog (TpuEff nD τ sig (Elt F) Λ₀ .tc) α}
    {O : CellTallies nD τ sig Unit} (hO : Above 1 O) :
    iprop(recs m ρ K ∗ levAts L lv ∗ cred (tallyAt (barC c) () 3) ∗ ow c O ∗ atPos ER (barC c) 0 ∅ 0)
      ⊢ iprop(((ow c O ∗ atPos ER (barC c) 1 ∅ 0 ∗ lent (F := F) (c + 1) c ∗ lent (F := F) (c + 2) c ∗ lent (F := F) (c + 3) c) -∗ W c (k ⟨⟩) Q)
        -∗ W c (.op (.semWait barS n) k) Q) := by
  subst hn
  unfold ow
  iintro ⟨#HR, #Hl, Hcr, ⟨%w, Ho⟩, Hat⟩ Hk
  ihave Hc := (recs_bar m ρ K c) $$ HR
  icases Hc with ⟨%κ, #HI, #Hr⟩
  iapply (Rounds.wp_wait_rest_token 𝒱₀ ER (Rd m ρ) (c : Thread nD τ) none (κ := κ) (R := 0) (T := ∅) (m := 0)
    (hw := wpE_semWait_eq 𝒱₀ (c : Thread nD τ) none Set.univ) (Set.mem_univ _) () (hk := by rw [Rd_expect]; rfl)) $$ [Hcr Ho Hat]
  · isplitr; · iexact HI
    isplitl [Hcr]; · iexact Hcr
    isplitl [Ho]; · iexact Ho
    isplitr; · iapply (mayWait c (.reg barS) hO); iexact Hl
    iexact Hat
  iintro ⟨Ho, Hat, -, Hp⟩
  iapply Hk
  isplitl [Ho]; · iexists _; iexact Ho
  isplitl [Hat]; · iexact Hat
  ihave Hp' := (show bigSep ((Rd m ρ).duties (barC c) 0 \ ∅) (fun d => (Rd m ρ).payload (barC c) 0 d) ⊢ iprop(lent (F := F) (c - 1) c ∗ lent (F := F) (c - 2) c ∗ lent (F := F) (c - 3) c) from by
    rw [Finset.sdiff_empty, Rd_duties, show dutiesU c (use (.reg barS)) 0 = {1, 2, 3} from rfl, bigSep_eq_bigSepL_of_eq [1, 2, 3] (by decide) (by decide)]
    exact .rfl) $$ Hp
  rw [show c - 1 = c + 3 from by revert c; decide, show c - 2 = c + 2 from by revert c; decide, show c - 3 = c + 1 from by revert c; decide]
  icases Hp' with ⟨H3, H2, H1⟩
  isplitl [H1]; · iexact H1
  isplitl [H2]; · iexact H2
  iexact H3

/-- A wait on a transfer semaphore of one duty. -/
theorem st_wait (K : Dev nD × Fin 19 → ℕ) {q sm : DmaSem sig} (hsm : sm = q) (u : Use) (hu : use (.dma q) = u) (h2 : 2 ≤ (show Fin 20 from q).val) (R : ℕ)
    (hd : dutiesU c u R = {0}) {sp sp' : Space} {s s' : Shape} {e e' : EltTy} {κ' : Kind}
    {src : Memref sig .tc sp' s' e'} {dst : Memref sig κ' sp s e} {hsrc : src.view.WordExact} {hdst : dst.view.WordExact}
    (hN : dst.view.dmaCredit = amountU u) {k : PUnit → Prog (TpuEff nD τ sig (Elt F) Λ₀ .tc) α}
    {O : CellTallies nD τ sig Unit} (hO : Above (lvU u) O) :
    iprop(recs m ρ K ∗ levAts L lv ∗ cred (tallyAt (dC c q) () (amountU u)) ∗ ow c O ∗ atPos ER (dC c q) R ∅ 0)
      ⊢ iprop(((ow c O ∗ atPos ER (dC c q) (R + 1) ∅ 0 ∗ reached ER (dC c q) (R + 1) ∗ payU m ρ c u R 0) -∗ W c (k ⟨⟩) Q)
        -∗ W c (.op (.waitDma2 sm src dst hsrc hdst) k) Q) := by
  subst hsm hu
  unfold ow
  iintro ⟨#HR, #Hl, Hcr, ⟨%w, Ho⟩, Hat⟩ Hk
  ihave Hc := (recs_dma m ρ K c sm h2) $$ HR
  icases Hc with ⟨%κ, #HI, #Hr⟩
  rw [← hN]
  iapply (Rounds.wp_wait_rest_token 𝒱₀ ER (Rd m ρ) (c : Thread nD τ) none (κ := κ) (R := R) (T := ∅) (m := 0)
    (hw := wpE_waitDma2_eq 𝒱₀ (c : Thread nD τ) none Set.univ) (Set.mem_univ _) ()
    (hk := by rw [Rd_expect, hd, hN, Finset.card_singleton, Nat.zero_add, Nat.one_mul])) $$ [Hcr Ho Hat]
  · isplitr; · iexact HI
    isplitl [Hcr]; · iexact Hcr
    isplitl [Ho]; · iexact Ho
    isplitr; · iapply (mayWait c (.dma sm) hO); iexact Hl
    iexact Hat
  iintro ⟨Ho, Hat, Hre, Hp⟩
  iapply Hk
  isplitl [Ho]; · iexists _; iexact Ho
  isplitl [Hat]; · iexact Hat
  isplitl [Hre]; · iexact Hre
  ihave Hp' := (show bigSep ((Rd m ρ).duties (dC c sm) R \ ∅) (fun d => (Rd m ρ).payload (dC c sm) R d) ⊢ payU m ρ c (use (.dma sm)) R 0 from by
    rw [Finset.sdiff_empty, Rd_duties, hd, bigSep_singleton]
    exact .rfl) $$ Hp
  iexact Hp'

end Steps

end Cert.Proof.Run

end
-- ==== Proof.Copies.lean ====
/-
# The copies of the kernel

Half a block of `w` into the staging, a block of rows into another device's slot, a row of maxima into another device's
table — each as a rule over parts of buffers at whole-buffer contents — and the waits for them.
-/
module

public import proofs.«01_k».proof.Proof.Steps

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The memrefs of the copies -/

abbrev rowM (k : Fin 4) : Memref sig .tc .vmem S1024x1024 .bf16 :=
  (Memref.whole cc0_scratch0 : Memref sig .tc .vmem S4096x1024 .bf16).slice (rowR k) (fun _ => rfl)
abbrev rowV (k : Fin 4) := (rowM k).view
abbrev slotM (k : Fin 4) : Memref sig .tc .vmem S1024x1024 .bf16 :=
  ((Memref.whole cc0_scratch1 : Memref sig .tc .vmem S4x1024x1024 .bf16).slice (slotR k) (fun _ => rfl)).squeeze S1024x1024 squeezes_S1x1024x1024_S1024x1024
abbrev slotV (k : Fin 4) := (slotM k).view
abbrev wrowM (k : Fin 4) (b : Fin 2) : Memref sig .tc .hbm S512x2048 .f32 :=
  (Memref.whole main_arg1 : Memref sig .tc .hbm S4096x2048 .f32).slice (wrowR k b) (fun _ => rfl)
abbrev wrowV (k : Fin 4) (b : Fin 2) := (wrowM k b).view
abbrev halfM (b : Fin 2) : Memref sig .tc .vmem S512x2048 .f32 :=
  ((Memref.whole cc0_scratch2 : Memref sig .tc .vmem S2x512x2048 .f32).slice (halfR b) (fun _ => rfl)).squeeze S512x2048 squeezes_S1x512x2048_S512x2048
abbrev halfV (b : Fin 2) := (halfM b).view
abbrev amM (k : Fin 4) : Memref sig .tc .vmem S1x128 .f32 :=
  (Memref.whole cc0_scratch3 : Memref sig .tc .vmem S4x128 .f32).slice (amR k) (fun _ => rfl)
abbrev amV (k : Fin 4) := (amM k).view

theorem rowV_set (k : Fin 4) : (rowV k).set = (rowR k).set := View.set_slice_whole _ _
theorem slotV_set (k : Fin 4) : (slotV k).set = (slotR k).set := (View.set_reshape _ _).trans (View.set_slice_whole _ _)
theorem wrowV_set (k : Fin 4) (b : Fin 2) : (wrowV k b).set = (wrowR k b).set := View.set_slice_whole _ _
theorem halfV_set (b : Fin 2) : (halfV b).set = (halfR b).set := (View.set_reshape _ _).trans (View.set_slice_whole _ _)
theorem amV_set (k : Fin 4) : (amV k).set = (amR k).set := View.set_slice_whole _ _

/-- Block `q` of device `p`'s rows is what slot `p` of device `q` is to hold. -/
theorem slot_read (p q : Dev nD) : (rowV q).read (Elt F) (xbF m ρ p) = (slotV p).read (Elt F) (xgF m ρ q) := by
  funext x
  obtain ⟨h1, h2⟩ := reshape_lead (Shape.Squeezes.numel_eq squeezes_S1x1024x1024_S1024x1024) x
  show xbF m ρ p ((rowR q).emb x) = xbF m ρ ((slotR p).emb (Shape.reshapeEquiv (Shape.Squeezes.numel_eq squeezes_S1x1024x1024_S1024x1024) x) 0) (inRow q ((slotR p).emb (Shape.reshapeEquiv (Shape.Squeezes.numel_eq squeezes_S1x1024x1024_S1024x1024) x)))
  have h0 : (slotR p).emb (Shape.reshapeEquiv (Shape.Squeezes.numel_eq squeezes_S1x1024x1024_S1024x1024) x) 0 = p := Fin.ext (by
    rw [Rect.emb_apply]
    show p.val + 1 * _ = p.val
    have : (Shape.reshapeEquiv (Shape.Squeezes.numel_eq squeezes_S1x1024x1024_S1024x1024) x 0).val < 1 := Fin.isLt _
    omega)
  rw [h0]
  refine congrArg _ (funext fun a => Fin.ext ?_)
  match a with
  | ⟨0, _⟩ =>
    show 1024 * q.val + 1 * (x 0).val = 1024 * q.val + (0 + 1 * (Shape.reshapeEquiv (Shape.Squeezes.numel_eq squeezes_S1x1024x1024_S1024x1024) x 1).val)
    rw [h1]; omega
  | ⟨1, _⟩ =>
    show 0 + 1 * (x 1).val = 0 + 1 * (Shape.reshapeEquiv (Shape.Squeezes.numel_eq squeezes_S1x1024x1024_S1024x1024) x 2).val
    rw [h2]

/-- Half `b` of block `k` of `w` is what half `b` of the staging is to hold. -/
theorem half_read (c : Dev nD) (k : Fin 4) (b : Fin 2) : (wrowV k b).read (Elt F) (wF m c) = (halfV b).read (Elt F) (wbF m c k) := by
  funext x
  obtain ⟨h1, h2⟩ := reshape_lead (Shape.Squeezes.numel_eq squeezes_S1x512x2048_S512x2048) x
  show wF m c ((wrowR k b).emb x) = wF m c (inBlk k ((halfR b).emb (Shape.reshapeEquiv (Shape.Squeezes.numel_eq squeezes_S1x512x2048_S512x2048) x)))
  refine congrArg _ (funext fun a => Fin.ext ?_)
  have : (Shape.reshapeEquiv (Shape.Squeezes.numel_eq squeezes_S1x512x2048_S512x2048) x 0).val < 1 := Fin.isLt _
  match a with
  | ⟨0, _⟩ =>
    show 512 * (2 * k.val + b.val) + 1 * (x 0).val = 512 * (2 * k.val + (b.val + 1 * (Shape.reshapeEquiv (Shape.Squeezes.numel_eq squeezes_S1x512x2048_S512x2048) x 0).val)) + (0 + 1 * (Shape.reshapeEquiv (Shape.Squeezes.numel_eq squeezes_S1x512x2048_S512x2048) x 1).val)
    rw [h1]; omega
  | ⟨1, _⟩ =>
    show 0 + 1 * (x 1).val = 0 + 1 * (Shape.reshapeEquiv (Shape.Squeezes.numel_eq squeezes_S1x512x2048_S512x2048) x 2).val
    rw [h2]

theorem NX_row (k : Fin 4) : (rowV k).dmaCredit = NX := rfl
theorem NX_slot (k : Fin 4) : (slotV k).dmaCredit = NX := rfl
theorem NW_half (b : Fin 2) : (halfV b).dmaCredit = NW := rfl
theorem NA_am (k : Fin 4) : (amV k).dmaCredit = NA := rfl

theorem wQ_ge : ∀ b : Fin 2, 2 ≤ (wQ b).val := by decide
theorem sendQ_ge : ∀ d : Fin 4, 2 ≤ (sendQ d).val := by decide
theorem recvQ_ge : ∀ d : Fin 4, 2 ≤ (recvQ d).val := by decide
theorem asendQ_ge : ∀ d : Fin 4, 2 ≤ (asendQ d).val := by decide
theorem arecvQ_ge : ∀ d : Fin 4, 2 ≤ (arecvQ d).val := by decide
theorem dev_ne : ∀ c d : Fin 4, d ≠ 0 → c ≠ c + d := by decide

section Steps
variable {α : Type} {Q : α → sProp (MT nD τ sig Unit (Elt F) ℕ UU ℕ)} (c : Dev nD)

/-- The copy of half `b` of block `k` of `w`, in round `r`. -/
theorem st_wstart (K : Dev nD × Fin 19 → ℕ) (b : Fin 2) (k' : Fin 4) (r : ℕ) (hr : r < 4) (hk : blk c r = k')
    {off1 : Fin 2 → ℕ} {inb1 : ∀ a, off1 a + S512x2048.size a ≤ S4096x2048.size a} (h1 : off1 = ![512 * (2 * k'.val + b.val), 0])
    {off2 : Fin 3 → ℕ} {inb2 : ∀ a, off2 a + S1x512x2048.size a ≤ S2x512x2048.size a} (h2 : off2 = ![b.val, 0, 0])
    {sm : DmaSem sig} (hsm : sm = wQ b) {hs1 hs2 hsrc hdst hsem}
    {k : PUnit → Prog (TpuEff nD τ sig (Elt F) Λ₀ .tc) α} :
    iprop(recs m ρ K ∗ pc c main_arg1 (wrowR k' b).set fullShare (wF m c) ∗ (∃ f, pc (F := F) c cc0_scratch2 (halfR b).set fullShare f)
        ∗ dutyTok ER (dC c (wQ b)) r 0 ∗ reached ER (dC c (wQ b)) r)
      ⊢ iprop((cred (tallyAt (dC c (wQ b)) () NW) -∗ W c (k ⟨⟩) Q)
        -∗ W c (.op (.enqueueDma ((Memref.whole main_arg1 : Memref sig .tc .hbm S4096x2048 .f32).slice (Rect.unit (s := S4096x2048) off1 S512x2048.size inb1) hs1)
            (.here (((Memref.whole cc0_scratch2 : Memref sig .tc .vmem S2x512x2048 .f32).slice (Rect.unit (s := S2x512x2048) off2 S1x512x2048.size inb2) hs2).squeeze S512x2048 squeezes_S1x512x2048_S512x2048))
            (.dma sm) hsrc hdst hsem) k) Q) := by
  subst h1 h2 hsm
  iintro ⟨#HR, Hw, ⟨%f, Hs⟩, Ht, Hre⟩ Hk
  ihave Hc := (recs_dma m ρ K c (wQ b) (wQ_ge b)) $$ HR
  icases Hc with ⟨%κ, #HI, -⟩
  have hpay : iprop(((halfV b).loc (c : Thread nD τ) ↦[(halfV b).set]{fullShare} ((halfV b).write (Elt F) f ((wrowV k' b).read (Elt F) (wF m c)) Finset.univ))
      ∗ ((wrowV k' b).loc (c : Thread nD τ) ↦[(wrowV k' b).set]{fullShare} (wF m c))) ⊢ (Rd m ρ).payload (dC c (wQ b)) r 0 := by
    rw [Rd_payload m ρ c _ r 0 (use_w b), write_pts c (halfV b) f (wbF m c k') _ (half_read m c k' b), halfV_set, wrowV_set, ← hk]
    exact .rfl
  iapply (Rounds.wp_copy_pointsTo 𝒱₀ ER (Rd m ρ) (c : Thread nD τ) none (src := wrowM k' b) (dst := halfM b) (sem := .dma (wQ b)) (κ := κ) (r := r) (d := 0) (q := fullShare) (fs := wF m c) (fd := f)
    (by rw [Rd_duties, use_w]; show _ ∈ ite _ _ _; rw [if_pos hr]; exact Finset.mem_singleton_self _) () NW (NW_half b)
    (by show amountU (use _) = NW; rw [use_w]; rfl) hpay) $$ [Hw Hs Ht Hre]
  · isplitr; · iexact HI
    isplitl [Hw]
    · rw [show (wrowV k' b).set = (wrowR k' b).set from wrowV_set k' b]; iexact Hw
    isplitl [Hs]
    · rw [show (halfV b).set = (halfR b).set from halfV_set b]; iexact Hs
    isplitl [Ht]; · iexact Ht
    iexact Hre
  iexact Hk

/-- Block `c + d` of the rows sent to device `c + d`. -/
theorem st_send (K : Dev nD × Fin 19 → ℕ) (d : Fin 4) (hd : d ≠ 0) {t : Dev nD} (ht : t = c + d)
    {off1 : Fin 2 → ℕ} {inb1 : ∀ a, off1 a + S1024x1024.size a ≤ S4096x1024.size a} (h1 : off1 = ![1024 * (c + d).val, 0])
    {off2 : Fin 3 → ℕ} {inb2 : ∀ a, off2 a + S1x1024x1024.size a ≤ S4x1024x1024.size a} (h2 : off2 = ![c.val, 0, 0])
    {sS sR : DmaSem sig} (hS : sS = sendQ d) (hR : sR = recvQ c) {hs1 hs2 hsc} {hsrc hdst hsem}
    {k : PUnit → Prog (TpuEff nD τ sig (Elt F) Λ₀ .tc) α} (O : CellTallies nD τ sig Unit) :
    iprop(recs m ρ K ∗ pc c cc0_scratch0 (rowR (c + d)).set fullShare (xbF m ρ c) ∗ (∃ f, pc (F := F) (c + d) cc0_scratch1 (slotR c).set fullShare f)
        ∗ ow c (O + tallyAt (dC (c + d) (recvQ c)) () NX) ∗ dutyTok ER (dC c (sendQ d)) 0 0 ∗ dutyTok ER (dC (c + d) (recvQ c)) 0 0)
      ⊢ iprop(((cred (tallyAt (dC c (sendQ d)) () NX) ∗ ow c O) -∗ W c (k ⟨⟩) Q)
        -∗ W c (.op (.enqueueDma ((Memref.whole cc0_scratch0 : Memref sig .tc .vmem S4096x1024 .bf16).slice (Rect.unit (s := S4096x1024) off1 S1024x1024.size inb1) hs1)
            (.remote (Dev.tc t) (((Memref.whole cc0_scratch1 : Memref sig .tc .vmem S4x1024x1024 .bf16).slice (Rect.unit (s := S4x1024x1024) off2 S1x1024x1024.size inb2) hs2).squeeze S1024x1024 squeezes_S1x1024x1024_S1024x1024)
              (.dma sS) hsc)
            (.dma sR) hsrc hdst hsem) k) Q) := by
  subst ht h1 h2 hS hR
  unfold ow
  iintro ⟨#HR, Hx, ⟨%f, Hs⟩, ⟨%w, Ho⟩, Ht1, Ht2⟩ Hk
  ihave Hc := (recs_dma m ρ K c (sendQ d) (sendQ_ge d)) $$ HR
  icases Hc with ⟨%κ₁, #HI1, #Hr1⟩
  ihave Hc := (recs_dma m ρ K (c + d) (recvQ c) (recvQ_ge c)) $$ HR
  icases Hc with ⟨%κ₂, #HI2, #Hr2⟩
  have hpay₁ : ((rowV (c + d)).loc (c : Thread nD τ) ↦[(rowV (c + d)).set]{fullShare} (xbF m ρ c) : sProp 𝕄) ⊢ (Rd m ρ).payload (dC c (sendQ d)) 0 0 := by
    rw [Rd_payload m ρ c _ 0 0 (use_send d), rowV_set]
    exact .rfl
  have hpay₂ : ((slotV c).loc ((c + d : Dev nD) : Thread nD τ) ↦[(slotV c).set]{fullShare} ((slotV c).write (Elt F) f ((rowV (c + d)).read (Elt F) (xbF m ρ c)) Finset.univ) : sProp 𝕄)
      ⊢ (Rd m ρ).payload (dC (c + d) (recvQ c)) 0 0 := by
    rw [Rd_payload m ρ (c + d) _ 0 0 (use_recv c), write_pts (c + d) (slotV c) f (xgF m ρ (c + d)) _ (slot_read m ρ c (c + d)), slotV_set]
    exact .rfl
  iapply (Rounds.wp_send_pointsTo 𝒱₀ ER (Rd m ρ) (c : Thread nD τ) none (c' := ((c + d : Dev nD) : Thread nD τ)) (src := rowM (c + d)) (dst := slotM c) (sS := .dma (sendQ d)) (sem := .dma (recvQ c)) (κ₁ := κ₁) (κ₂ := κ₂) (r₁ := 0) (r₂ := 0) (d₁ := 0) (d₂ := 0) (q := fullShare) (fs := xbF m ρ c) (fd := f)
    (by rw [Rd_duties, use_send]; show _ ∈ ite _ _ _; rw [if_neg hd]; exact Finset.mem_singleton_self _)
    (by rw [Rd_duties, use_recv]; show _ ∈ ite _ _ _; rw [if_neg (dev_ne c d hd)]; exact Finset.mem_singleton_self _)
    () () NX (NX_slot c)
    (by show amountU (use _) = NX; rw [use_send]; rfl) (by show amountU (use _) = NX; rw [use_recv]; rfl) O rfl hpay₁ hpay₂) $$ [Hx Hs Ho Ht1 Ht2]
  · isplitr; · iexact HI1
    isplitr; · iexact HI2
    isplitl [Hx]
    · rw [show (rowV (c + d)).set = (rowR (c + d)).set from rowV_set (c + d)]; iexact Hx
    isplitl [Hs]
    · rw [show (slotV c).set = (slotR c).set from slotV_set c]; iexact Hs
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists _; iexact Ho

/-- The maxima row of device `c` sent to device `c + d`. -/
theorem st_asend (K : Dev nD × Fin 19 → ℕ) (d : Fin 4) (hd : d ≠ 0) {t : Dev nD} (ht : t = c + d)
    {off1 : Fin 2 → ℕ} {inb1 : ∀ a, off1 a + S1x128.size a ≤ S4x128.size a} (h1 : off1 = ![c.val, 0])
    {sS sR : DmaSem sig} (hS : sS = asendQ d) (hR : sR = arecvQ c) {hs1 hs2 hsc} {hsrc hdst hsem}
    {k : PUnit → Prog (TpuEff nD τ sig (Elt F) Λ₀ .tc) α} (O : CellTallies nD τ sig Unit) :
    iprop(recs m ρ K ∗ pc c cc0_scratch3 (amR c).set (shr d) (amF m ρ) ∗ (∃ f, pc (F := F) (c + d) cc0_scratch3 (amR c).set fullShare f)
        ∗ ow c (O + tallyAt (dC (c + d) (arecvQ c)) () NA) ∗ dutyTok ER (dC c (asendQ d)) 0 0 ∗ dutyTok ER (dC (c + d) (arecvQ c)) 0 0)
      ⊢ iprop(((cred (tallyAt (dC c (asendQ d)) () NA) ∗ ow c O) -∗ W c (k ⟨⟩) Q)
        -∗ W c (.op (.enqueueDma ((Memref.whole cc0_scratch3 : Memref sig .tc .vmem S4x128 .f32).slice (Rect.unit (s := S4x128) off1 S1x128.size inb1) hs1)
            (.remote (Dev.tc t) ((Memref.whole cc0_scratch3 : Memref sig .tc .vmem S4x128 .f32).slice (Rect.unit (s := S4x128) off1 S1x128.size inb1) hs2)
              (.dma sS) hsc)
            (.dma sR) hsrc hdst hsem) k) Q) := by
  subst ht h1 hS hR
  unfold ow
  iintro ⟨#HR, Hx, ⟨%f, Hs⟩, ⟨%w, Ho⟩, Ht1, Ht2⟩ Hk
  ihave Hc := (recs_dma m ρ K c (asendQ d) (asendQ_ge d)) $$ HR
  icases Hc with ⟨%κ₁, #HI1, #Hr1⟩
  ihave Hc := (recs_dma m ρ K (c + d) (arecvQ c) (arecvQ_ge c)) $$ HR
  icases Hc with ⟨%κ₂, #HI2, #Hr2⟩
  have hpay₁ : ((amV c).loc (c : Thread nD τ) ↦[(amV c).set]{shr d} (amF m ρ) : sProp 𝕄) ⊢ (Rd m ρ).payload (dC c (asendQ d)) 0 0 := by
    rw [Rd_payload m ρ c _ 0 0 (use_asend d), amV_set]
    exact .rfl
  have hpay₂ : ((amV c).loc ((c + d : Dev nD) : Thread nD τ) ↦[(amV c).set]{fullShare} ((amV c).write (Elt F) f ((amV c).read (Elt F) (amF m ρ)) Finset.univ) : sProp 𝕄)
      ⊢ (Rd m ρ).payload (dC (c + d) (arecvQ c)) 0 0 := by
    rw [Rd_payload m ρ (c + d) _ 0 0 (use_arecv c), write_pts (c + d) (amV c) f (amF m ρ) _ rfl, amV_set]
    exact .rfl
  iapply (Rounds.wp_send_pointsTo 𝒱₀ ER (Rd m ρ) (c : Thread nD τ) none (c' := ((c + d : Dev nD) : Thread nD τ)) (src := amM c) (dst := amM c) (sS := .dma (asendQ d)) (sem := .dma (arecvQ c)) (κ₁ := κ₁) (κ₂ := κ₂) (r₁ := 0) (r₂ := 0) (d₁ := 0) (d₂ := 0) (q := shr d) (fs := amF m ρ) (fd := f)
    (by rw [Rd_duties, use_asend]; show _ ∈ ite _ _ _; rw [if_neg hd]; exact Finset.mem_singleton_self _)
    (by rw [Rd_duties, use_arecv]; show _ ∈ ite _ _ _; rw [if_neg (dev_ne c d hd)]; exact Finset.mem_singleton_self _)
    () () NA (NA_am c)
    (by show amountU (use _) = NA; rw [use_asend]; rfl) (by show amountU (use _) = NA; rw [use_arecv]; rfl) O rfl hpay₁ hpay₂) $$ [Hx Hs Ho Ht1 Ht2]
  · isplitr; · iexact HI1
    isplitr; · iexact HI2
    isplitl [Hx]
    · rw [show (amV c).set = (amR c).set from amV_set c]; iexact Hx
    isplitl [Hs]
    · rw [show (amV c).set = (amR c).set from amV_set c]; iexact Hs
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists _; iexact Ho

end Steps

end Cert.Proof.Run

end
-- ==== Proof.Ops.lean ====
/-
# The kernel's operations

Each operation as the kernel writes it: its offsets and its semaphores named by device, what it takes and what it leaves.
-/
module

public import proofs.«01_k».proof.Proof.Copies

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Devices, offsets, semaphores -/

theorem dev_eqs : ∀ c : Dev nD,
    (⟨k0_dev1 c, k0_dev1_lt c⟩ : Dev nD) = c + 1 ∧ (⟨k0_dev2 c, k0_dev2_lt c⟩ : Dev nD) = c + 2 ∧ (⟨k0_dev3 c, k0_dev3_lt c⟩ : Dev nD) = c + 3
    ∧ (⟨k0_dev4 c, k0_dev4_lt c⟩ : Dev nD) = c + 1 ∧ (⟨k0_dev5 c, k0_dev5_lt c⟩ : Dev nD) = c + 2 ∧ (⟨k0_dev6 c, k0_dev6_lt c⟩ : Dev nD) = c + 3
    ∧ (⟨k0_dev7 c, k0_dev7_lt c⟩ : Dev nD) = c + 1 ∧ (⟨k0_dev8 c, k0_dev8_lt c⟩ : Dev nD) = c + 2 ∧ (⟨k0_dev9 c, k0_dev9_lt c⟩ : Dev nD) = c + 3 := by
  decide +kernel

theorem off1_eq : ∀ (c : Dev nD) (d : Fin 4) (b : Fin 2),
    k0_off1 c (BitVec.ofNat 32 d.val) (BitVec.ofNat 32 b.val) = ![512 * (2 * (c + d).val + b.val), 0] := by decide +kernel
theorem off2_eq : ∀ (c : Dev nD) (r : Fin 3), k0_off2 c (BitVec.ofNat 32 (1 + r.val)) = ![1024 * (c + r.succ).val, 0] := by decide +kernel
theorem off5_eq : ∀ (c : Dev nD) (r : Fin 3), k0_off5 c (BitVec.ofNat 32 (1 + r.val)) = ![1024 * (c + r.succ).val, 0] := by decide +kernel
theorem off9_eq : ∀ (c : Dev nD) (r : Fin 3), k0_off9 c (BitVec.ofNat 32 (1 + r.val)) = ![(c + r.succ).val] := by decide +kernel
theorem off11_eq : ∀ (c : Dev nD) (r : Fin 3), k0_off11 c (BitVec.ofNat 32 (1 + r.val)) = ![(c + r.succ).val, 0, 512 * (0 : Fin 2).val] := by decide +kernel
theorem off12_eq : ∀ (c : Dev nD) (r : Fin 3), k0_off12 c (BitVec.ofNat 32 (1 + r.val)) = ![(c + r.succ).val, 0, 512 * (1 : Fin 2).val] := by decide +kernel

theorem recv_sems : ∀ (k : Fin 4) (inb : ∀ a, (![k.val] : Fin 1 → ℕ) a + S1.size a ≤ S4.size a),
    (((cc0_scratch5 : DmaSems sig S4).slice (Rect.unit (s := S4) ![k.val] S1.size inb)).squeeze S_ squeezes_S1_S_).sem = recvQ k := by decide +kernel
theorem arecv_sems : ∀ (k : Fin 4) (inb : ∀ a, (![k.val] : Fin 1 → ℕ) a + S1.size a ≤ S4.size a),
    (((cc0_scratch8 : DmaSems sig S4).slice (Rect.unit (s := S4) ![k.val] S1.size inb)).squeeze S_ squeezes_S1_S_).sem = arecvQ k := by decide +kernel
theorem send_sems : ∀ (k : Fin 4) (inb : ∀ a, (![k.val] : Fin 1 → ℕ) a + S1.size a ≤ S4.size a),
    (((cc0_scratch4 : DmaSems sig S4).slice (Rect.unit (s := S4) ![k.val] S1.size inb)).squeeze S_ squeezes_S1_S_).sem = sendQ k := by decide +kernel
theorem asend_sems : ∀ (k : Fin 4) (inb : ∀ a, (![k.val] : Fin 1 → ℕ) a + S1.size a ≤ S4.size a),
    (((cc0_scratch7 : DmaSems sig S4).slice (Rect.unit (s := S4) ![k.val] S1.size inb)).squeeze S_ squeezes_S1_S_).sem = asendQ k := by decide +kernel
theorem w_sems : ∀ (k : Fin 2) (inb : ∀ a, (![k.val] : Fin 1 → ℕ) a + S1.size a ≤ S2.size a),
    (((cc0_scratch6 : DmaSems sig S2).slice (Rect.unit (s := S2) ![k.val] S1.size inb)).squeeze S_ squeezes_S1_S_).sem = wQ k := by decide +kernel

theorem recv_sem {off : Fin 1 → ℕ} {inb : ∀ a, off a + S1.size a ≤ S4.size a} (k : Fin 4) (h : off = ![k.val]) :
    (((cc0_scratch5 : DmaSems sig S4).slice (Rect.unit (s := S4) off S1.size inb)).squeeze S_ squeezes_S1_S_).sem = recvQ k := by
  subst h; exact recv_sems k inb
theorem arecv_sem {off : Fin 1 → ℕ} {inb : ∀ a, off a + S1.size a ≤ S4.size a} (k : Fin 4) (h : off = ![k.val]) :
    (((cc0_scratch8 : DmaSems sig S4).slice (Rect.unit (s := S4) off S1.size inb)).squeeze S_ squeezes_S1_S_).sem = arecvQ k := by
  subst h; exact arecv_sems k inb

theorem blk_eqs : ∀ c : Dev nD, blk c 0 = c + 0 ∧ blk c 1 = c + 3 ∧ blk c 2 = c + 2 ∧ blk c 3 = c + 1 := by decide

/-! ## What a device still owes -/

/-- The nine debts of device `c`, the last first. -/
def owedAt (c : Dev nD) : ℕ → CellTallies nD τ sig Unit
  | 0 => tallyAt (dC (c + 3) (arecvQ c)) () NA
  | 1 => tallyAt (dC (c + 2) (arecvQ c)) () NA
  | 2 => tallyAt (dC (c + 1) (arecvQ c)) () NA
  | 3 => tallyAt (dC (c + 3) (recvQ c)) () NX
  | 4 => tallyAt (dC (c + 2) (recvQ c)) () NX
  | 5 => tallyAt (dC (c + 1) (recvQ c)) () NX
  | 6 => tallyAt (barC (c + 3)) () 1
  | 7 => tallyAt (barC (c + 2)) () 1
  | _ => tallyAt (barC (c + 1)) () 1

/-- What device `c` owes while its last `n` debts are unpaid. -/
def debt (c : Dev nD) : ℕ → CellTallies nD τ sig Unit
  | 0 => 0
  | n + 1 => debt c n + owedAt c n

theorem debt_succ (c : Dev nD) (n : ℕ) : debt c (n + 1) = debt c n + owedAt c n := by rw [debt]

theorem above_a (c t : Dev nD) {n : ℕ} (h : n < 3) : Above n (tallyAt (dC t (arecvQ c)) () NA) :=
  above_tally t (.dma (arecvQ c)) NA (by rw [use_arecv]; exact h)
theorem above_x (c t : Dev nD) {n : ℕ} (h : n < 2) : Above n (tallyAt (dC t (recvQ c)) () NX) :=
  above_tally t (.dma (recvQ c)) NX (by rw [use_recv]; exact h)

theorem above_debt0 (c : Dev nD) (n : ℕ) : Above n (debt c 0) := by rw [debt]; exact above_zero n
theorem above_debt3 (c : Dev nD) (n : ℕ) (h : n < 3) : Above n (debt c 3) := by
  rw [debt_succ, debt_succ, debt_succ]
  exact above_add (above_add (above_add (above_debt0 c n) (above_a c _ h)) (above_a c _ h)) (above_a c _ h)
theorem above_debt6 (c : Dev nD) : Above 1 (debt c 6) := by
  rw [debt_succ, debt_succ, debt_succ]
  exact above_add (above_add (above_add (above_debt3 c 1 (by decide)) (above_x c _ Nat.one_lt_two)) (above_x c _ Nat.one_lt_two)) (above_x c _ Nat.one_lt_two)

/-! ## States of the transfers -/

/-- Rows `k`, half `b` of `w`. -/
def wChunk (c : Dev nD) (k : Fin 4) (b : Fin 2) : sProp 𝕄 := pc c main_arg1 (wrowR k b).set fullShare (wF m c)
/-- Half `b` of the staging free for round `r`. -/
def wRdy (c : Dev nD) (b : Fin 2) (r : ℕ) : sProp 𝕄 :=
  iprop((∃ f, pc (F := F) c cc0_scratch2 (halfR b).set fullShare f) ∗ atPos ER (dC c (wQ b)) r ∅ 0 ∗ reached ER (dC c (wQ b)) r)
/-- Round `r` of half `b` under way. -/
def wFly (c : Dev nD) (b : Fin 2) (r : ℕ) : sProp 𝕄 := iprop(cred (tallyAt (dC c (wQ b)) () NW) ∗ atPos ER (dC c (wQ b)) r ∅ 0)
/-- Half `b` of the staging filled by round `r`. -/
def wHave (c : Dev nD) (k : Fin 4) (b : Fin 2) (r : ℕ) : sProp 𝕄 :=
  iprop(pc c cc0_scratch2 (halfR b).set fullShare (wbF m c k) ∗ atPos ER (dC c (wQ b)) (r + 1) ∅ 0 ∗ reached ER (dC c (wQ b)) (r + 1))
/-- Credit for a transfer on `q`, no round of it taken. -/
def due (c : Dev nD) (q : DmaSem sig) (N : ℕ) : sProp 𝕄 := iprop(cred (tallyAt (dC c q) () N) ∗ atPos ER (dC c q) 0 ∅ 0)
/-- The one round of `q` taken. -/
def done (c : Dev nD) (q : DmaSem sig) : sProp 𝕄 := atPos ER (dC c q) 1 ∅ 0
/-- The landing place of device `c`'s block on device `p`. -/
def spot (p c : Dev nD) : sProp 𝕄 := iprop(∃ f, pc (F := F) p cc0_scratch1 (slotR c).set fullShare f)
/-- The landing place of device `c`'s maxima on device `p`. -/
def aspot (p c : Dev nD) : sProp 𝕄 := iprop(∃ f, pc (F := F) p cc0_scratch3 (amR c).set fullShare f)

theorem lent_split (p c : Dev nD) : lent (F := F) p c ⊢ iprop(spot p c ∗ aspot p c) := .rfl
theorem lent_join (p c : Dev nD) : iprop(spot p c ∗ aspot p c) ⊢ lent (F := F) p c := .rfl

theorem wRdy_of_have (c : Dev nD) (k : Fin 4) (b : Fin 2) (r : ℕ) : wHave m c k b r ⊢ wRdy (F := F) c b (r + 1) := by
  unfold wHave wRdy
  iintro ⟨H, Ha, Hr⟩
  isplitl [H]; · iexists _; iexact H
  isplitl [Ha]; · iexact Ha
  iexact Hr

section Steps
variable {α : Type} {Q : α → sProp (MT nD τ sig Unit (Elt F) ℕ UU ℕ)} (c : Dev nD)

/-- Start round `r` of half `b`. -/
theorem op_wstart (K : Dev nD × Fin 19 → ℕ) (b : Fin 2) (k' : Fin 4) (r : ℕ) (hr : r < 4) (hk : blk c r = k')
    {off1 : Fin 2 → ℕ} {inb1 : ∀ a, off1 a + S512x2048.size a ≤ S4096x2048.size a} (h1 : off1 = ![512 * (2 * k'.val + b.val), 0])
    {off2 : Fin 3 → ℕ} {inb2 : ∀ a, off2 a + S1x512x2048.size a ≤ S2x512x2048.size a} (h2 : off2 = ![b.val, 0, 0])
    {sm : DmaSem sig} (hsm : sm = wQ b) {hs1 hs2 hsrc hdst hsem}
    {k : PUnit → Prog (TpuEff nD τ sig (Elt F) Λ₀ .tc) α} :
    iprop(recs m ρ K ∗ wChunk m c k' b ∗ wRdy (F := F) c b r ∗ dutyTok ER (dC c (wQ b)) r 0)
      ⊢ iprop((wFly (F := F) c b r -∗ W c (k ⟨⟩) Q)
        -∗ W c (.op (.enqueueDma ((Memref.whole main_arg1 : Memref sig .tc .hbm S4096x2048 .f32).slice (Rect.unit (s := S4096x2048) off1 S512x2048.size inb1) hs1)
            (.here (((Memref.whole cc0_scratch2 : Memref sig .tc .vmem S2x512x2048 .f32).slice (Rect.unit (s := S2x512x2048) off2 S1x512x2048.size inb2) hs2).squeeze S512x2048 squeezes_S1x512x2048_S512x2048))
            (.dma sm) hsrc hdst hsem) k) Q) := by
  unfold wChunk wRdy wFly
  iintro ⟨#HR, Hw, ⟨Hf, Ha, Hre⟩, Ht⟩ Hk
  iapply (st_wstart m ρ c K b k' r hr hk h1 h2 hsm) $$ [Hw Hf Ht Hre]
  · isplitr; · iexact HR
    isplitl [Hw]; · iexact Hw
    isplitl [Hf]; · iexact Hf
    isplitl [Ht]; · iexact Ht
    iexact Hre
  iintro Hc
  iapply Hk
  isplitl [Hc]; · iexact Hc
  iexact Ha

/-- Wait for round `r` of half `b`. -/
theorem op_wwait (K : Dev nD × Fin 19 → ℕ) (b : Fin 2) (k' : Fin 4) (r : ℕ) (hr : r < 4) (hk : blk c r = k')
    {sm : DmaSem sig} (hsm : sm = wQ b) {sp : Space} {s : Shape} {e : EltTy} {src : Memref sig .tc sp s e}
    {off2 : Fin 3 → ℕ} {inb2 : ∀ a, off2 a + S1x512x2048.size a ≤ S2x512x2048.size a} {hs2} {hsrc : src.view.WordExact} {hdst}
    {k : PUnit → Prog (TpuEff nD τ sig (Elt F) Λ₀ .tc) α} :
    iprop(recs m ρ K ∗ levAts L lv ∗ wFly (F := F) c b r ∗ ow c (debt c 3))
      ⊢ iprop(((ow c (debt c 3) ∗ wHave m c k' b r ∗ wChunk m c k' b) -∗ W c (k ⟨⟩) Q)
        -∗ W c (.op (.waitDma2 sm src
            (((Memref.whole cc0_scratch2 : Memref sig .tc .vmem S2x512x2048 .f32).slice (Rect.unit (s := S2x512x2048) off2 S1x512x2048.size inb2) hs2).squeeze S512x2048 squeezes_S1x512x2048_S512x2048)
            hsrc hdst) k) Q) := by
  subst hk
  unfold wFly wHave wChunk
  iintro ⟨#HR, #Hl, ⟨Hc, Ha⟩, Ho⟩ Hk
  iapply (st_wait m ρ c K hsm (.wst b) (use_w b) (wQ_ge b) r (if_pos hr) (src := src)
    (dst := ((Memref.whole cc0_scratch2 : Memref sig .tc .vmem S2x512x2048 .f32).slice (Rect.unit (s := S2x512x2048) off2 S1x512x2048.size inb2) hs2).squeeze S512x2048 squeezes_S1x512x2048_S512x2048) (hN := rfl) (above_debt3 c 0 (by decide))) $$ [Hc Ha Ho]
  · isplitr; · iexact HR
    isplitr; · iexact Hl
    isplitl [Hc]; · iexact Hc
    isplitl [Ho]; · iexact Ho
    iexact Ha
  iintro ⟨Ho, Ha, Hr, Hp⟩
  ihave Hp' := (show payU m ρ c (.wst b) r 0 ⊢ iprop(pc c cc0_scratch2 (halfR b).set fullShare (wbF m c (blk c r)) ∗ pc c main_arg1 (wrowR (blk c r) b).set fullShare (wF m c)) from .rfl) $$ Hp
  icases Hp' with ⟨H1, H2⟩
  iapply Hk
  isplitl [Ho]; · iexact Ho
  isplitr [H2]
  · isplitl [H1]; · iexact H1
    isplitl [Ha]; · iexact Ha
    iexact Hr
  iexact H2

/-- Send block `c + d`. -/
theorem op_send (K : Dev nD × Fin 19 → ℕ) (d : Fin 4) (hd : d ≠ 0) {t : Dev nD} (ht : t = c + d)
    {off1 : Fin 2 → ℕ} {inb1 : ∀ a, off1 a + S1024x1024.size a ≤ S4096x1024.size a} (h1 : off1 = ![1024 * (c + d).val, 0])
    {off2 : Fin 3 → ℕ} {inb2 : ∀ a, off2 a + S1x1024x1024.size a ≤ S4x1024x1024.size a} (h2 : off2 = ![c.val, 0, 0])
    {sS sR : DmaSem sig} (hS : sS = sendQ d) (hR : sR = recvQ c) {hs1 hs2 hsc} {hsrc hdst hsem}
    {k : PUnit → Prog (TpuEff nD τ sig (Elt F) Λ₀ .tc) α} (n : ℕ) (hn : debt c (n + 1) = debt c n + tallyAt (dC (c + d) (recvQ c)) () NX) :
    iprop(recs m ρ K ∗ pc c cc0_scratch0 (rowR (c + d)).set fullShare (xbF m ρ c) ∗ spot (F := F) (c + d) c
        ∗ ow c (debt c (n + 1)) ∗ dutyTok ER (dC c (sendQ d)) 0 0 ∗ dutyTok ER (dC (c + d) (recvQ c)) 0 0 ∗ atPos ER (dC c (sendQ d)) 0 ∅ 0)
      ⊢ iprop(((due (F := F) c (sendQ d) NX ∗ ow c (debt c n)) -∗ W c (k ⟨⟩) Q)
        -∗ W c (.op (.enqueueDma ((Memref.whole cc0_scratch0 : Memref sig .tc .vmem S4096x1024 .bf16).slice (Rect.unit (s := S4096x1024) off1 S1024x1024.size inb1) hs1)
            (.remote (Dev.tc t) (((Memref.whole cc0_scratch1 : Memref sig .tc .vmem S4x1024x1024 .bf16).slice (Rect.unit (s := S4x1024x1024) off2 S1x1024x1024.size inb2) hs2).squeeze S1024x1024 squeezes_S1x1024x1024_S1024x1024)
              (.dma sS) hsc)
            (.dma sR) hsrc hdst hsem) k) Q) := by
  rw [hn]
  unfold due spot
  iintro ⟨#HR, Hx, Hs, Ho, Ht1, Ht2, Ha⟩ Hk
  iapply (st_send m ρ c K d hd ht h1 h2 hS hR (debt c n)) $$ [Hx Hs Ho Ht1 Ht2]
  · isplitr; · iexact HR
    isplitl [Hx]; · iexact Hx
    isplitl [Hs]; · iexact Hs
    isplitl [Ho]; · iexact Ho
    isplitl [Ht1]; · iexact Ht1
    iexact Ht2
  iintro ⟨Hc, Ho⟩
  iapply Hk
  isplitr [Ho]
  · isplitl [Hc]; · iexact Hc
    iexact Ha
  iexact Ho

/-- Send the maxima to device `c + d`. -/
theorem op_asend (K : Dev nD × Fin 19 → ℕ) (d : Fin 4) (hd : d ≠ 0) {t : Dev nD} (ht : t = c + d)
    {off1 : Fin 2 → ℕ} {inb1 : ∀ a, off1 a + S1x128.size a ≤ S4x128.size a} (h1 : off1 = ![c.val, 0])
    {sS sR : DmaSem sig} (hS : sS = asendQ d) (hR : sR = arecvQ c) {hs1 hs2 hsc} {hsrc hdst hsem}
    {k : PUnit → Prog (TpuEff nD τ sig (Elt F) Λ₀ .tc) α} (n : ℕ) (hn : debt c (n + 1) = debt c n + tallyAt (dC (c + d) (arecvQ c)) () NA) :
    iprop(recs m ρ K ∗ pc c cc0_scratch3 (amR c).set (shr d) (amF m ρ) ∗ aspot (F := F) (c + d) c
        ∗ ow c (debt c (n + 1)) ∗ dutyTok ER (dC c (asendQ d)) 0 0 ∗ dutyTok ER (dC (c + d) (arecvQ c)) 0 0 ∗ atPos ER (dC c (asendQ d)) 0 ∅ 0)
      ⊢ iprop(((due (F := F) c (asendQ d) NA ∗ ow c (debt c n)) -∗ W c (k ⟨⟩) Q)
        -∗ W c (.op (.enqueueDma ((Memref.whole cc0_scratch3 : Memref sig .tc .vmem S4x128 .f32).slice (Rect.unit (s := S4x128) off1 S1x128.size inb1) hs1)
            (.remote (Dev.tc t) ((Memref.whole cc0_scratch3 : Memref sig .tc .vmem S4x128 .f32).slice (Rect.unit (s := S4x128) off1 S1x128.size inb1) hs2)
              (.dma sS) hsc)
            (.dma sR) hsrc hdst hsem) k) Q) := by
  rw [hn]
  unfold due aspot
  iintro ⟨#HR, Hx, Hs, Ho, Ht1, Ht2, Ha⟩ Hk
  iapply (st_asend m ρ c K d hd ht h1 hS hR (debt c n)) $$ [Hx Hs Ho Ht1 Ht2]
  · isplitr; · iexact HR
    isplitl [Hx]; · iexact Hx
    isplitl [Hs]; · iexact Hs
    isplitl [Ho]; · iexact Ho
    isplitl [Ht1]; · iexact Ht1
    iexact Ht2
  iintro ⟨Hc, Ho⟩
  iapply Hk
  isplitr [Ho]
  · isplitl [Hc]; · iexact Hc
    iexact Ha
  iexact Ho

/-- Take the one round of a transfer semaphore. -/
theorem op_take (K : Dev nD × Fin 19 → ℕ) {q sm : DmaSem sig} (hsm : sm = q) (u : Use) (hu : use (.dma q) = u) (h2 : 2 ≤ (show Fin 20 from q).val)
    (hd : dutiesU c u 0 = {0}) {sp sp' : Space} {s s' : Shape} {e e' : EltTy}
    {src : Memref sig .tc sp' s' e'} {dst : Memref sig .tc sp s e} {hsrc : src.view.WordExact} {hdst : dst.view.WordExact}
    (hN : dst.view.dmaCredit = amountU u) {k : PUnit → Prog (TpuEff nD τ sig (Elt F) Λ₀ .tc) α}
    {O : CellTallies nD τ sig Unit} (hO : Above (lvU u) O) :
    iprop(recs m ρ K ∗ levAts L lv ∗ due (F := F) c q (amountU u) ∗ ow c O)
      ⊢ iprop(((ow c O ∗ done (F := F) c q ∗ payU m ρ c u 0 0) -∗ W c (k ⟨⟩) Q)
        -∗ W c (.op (.waitDma2 sm src dst hsrc hdst) k) Q) := by
  unfold due done
  iintro ⟨#HR, #Hl, ⟨Hc, Ha⟩, Ho⟩ Hk
  iapply (st_wait m ρ c K hsm u hu h2 0 hd hN hO) $$ [Hc Ha Ho]
  · isplitr; · iexact HR
    isplitr; · iexact Hl
    isplitl [Hc]; · iexact Hc
    isplitl [Ho]; · iexact Ho
    iexact Ha
  iintro ⟨Ho, Ha, -, Hp⟩
  iapply Hk
  isplitl [Ho]; · iexact Ho
  isplitl [Ha]; · iexact Ha
  iexact Hp

/-- Wait for the block of device `j`. -/
theorem op_recv (K : Dev nD × Fin 19 → ℕ) (j : Fin 4) (hj : j ≠ c) {off : Fin 1 → ℕ} {inb : ∀ a, off a + S1.size a ≤ S4.size a} (h : off = ![j.val])
    {sp : Space} {s : Shape} {e : EltTy} {src : Memref sig .tc sp s e}
    {off2 : Fin 3 → ℕ} {inb2 : ∀ a, off2 a + S1x1024x1024.size a ≤ S4x1024x1024.size a} {hs2} {hsrc : src.view.WordExact} {hdst}
    {k : PUnit → Prog (TpuEff nD τ sig (Elt F) Λ₀ .tc) α} :
    iprop(recs m ρ K ∗ levAts L lv ∗ due (F := F) c (recvQ j) NX ∗ ow c (debt c 3))
      ⊢ iprop(((ow c (debt c 3) ∗ done (F := F) c (recvQ j) ∗ pc c cc0_scratch1 (slotR j).set fullShare (xgF m ρ c)) -∗ W c (k ⟨⟩) Q)
        -∗ W c (.op (.waitDma2 (((cc0_scratch5 : DmaSems sig S4).slice (Rect.unit (s := S4) off S1.size inb)).squeeze S_ squeezes_S1_S_).sem src
            (((Memref.whole cc0_scratch1 : Memref sig .tc .vmem S4x1024x1024 .bf16).slice (Rect.unit (s := S4x1024x1024) off2 S1x1024x1024.size inb2) hs2).squeeze S1024x1024 squeezes_S1x1024x1024_S1024x1024)
            hsrc hdst) k) Q) :=
  op_take m ρ c K (recv_sem j h) (.recv j) (use_recv j) (recvQ_ge j) (if_neg hj) (src := src)
    (dst := ((Memref.whole cc0_scratch1 : Memref sig .tc .vmem S4x1024x1024 .bf16).slice (Rect.unit (s := S4x1024x1024) off2 S1x1024x1024.size inb2) hs2).squeeze S1024x1024 squeezes_S1x1024x1024_S1024x1024) (hN := rfl) (above_debt3 c 2 (by decide))

/-- Wait for block `c + d` to have left. -/
theorem op_sent (K : Dev nD × Fin 19 → ℕ) (d : Fin 4) (hd : d ≠ 0) {sm : DmaSem sig} (hsm : sm = sendQ d)
    {sp : Space} {s : Shape} {e : EltTy} {src : Memref sig .tc sp s e}
    {off2 : Fin 2 → ℕ} {inb2 : ∀ a, off2 a + S1024x1024.size a ≤ S4096x1024.size a} {hs2} {hsrc : src.view.WordExact} {hdst}
    {k : PUnit → Prog (TpuEff nD τ sig (Elt F) Λ₀ .tc) α} :
    iprop(recs m ρ K ∗ levAts L lv ∗ due (F := F) c (sendQ d) NX ∗ ow c (debt c 3))
      ⊢ iprop(((ow c (debt c 3) ∗ done (F := F) c (sendQ d) ∗ pc c cc0_scratch0 (rowR (c + d)).set fullShare (xbF m ρ c)) -∗ W c (k ⟨⟩) Q)
        -∗ W c (.op (.waitDma2 sm src
            ((Memref.whole cc0_scratch0 : Memref sig .tc .vmem S4096x1024 .bf16).slice (Rect.unit (s := S4096x1024) off2 S1024x1024.size inb2) hs2)
            hsrc hdst) k) Q) :=
  op_take m ρ c K hsm (.send d) (use_send d) (sendQ_ge d) (if_neg hd) (src := src)
    (dst := (Memref.whole cc0_scratch0 : Memref sig .tc .vmem S4096x1024 .bf16).slice (Rect.unit (s := S4096x1024) off2 S1024x1024.size inb2) hs2) (hN := rfl) (above_debt3 c 0 (by decide))

/-- Wait for the maxima of device `j`. -/
theorem op_arecv (K : Dev nD × Fin 19 → ℕ) (j : Fin 4) (hj : j ≠ c) {off : Fin 1 → ℕ} {inb : ∀ a, off a + S1.size a ≤ S4.size a} (h : off = ![j.val])
    {sp : Space} {s : Shape} {e : EltTy} {src : Memref sig .tc sp s e}
    {off2 : Fin 2 → ℕ} {inb2 : ∀ a, off2 a + S1x128.size a ≤ S4x128.size a} {hs2} {hsrc : src.view.WordExact} {hdst}
    {k : PUnit → Prog (TpuEff nD τ sig (Elt F) Λ₀ .tc) α} :
    iprop(recs m ρ K ∗ levAts L lv ∗ due (F := F) c (arecvQ j) NA ∗ ow c (debt c 0))
      ⊢ iprop(((ow c (debt c 0) ∗ done (F := F) c (arecvQ j) ∗ pc c cc0_scratch3 (amR j).set fullShare (amF m ρ)) -∗ W c (k ⟨⟩) Q)
        -∗ W c (.op (.waitDma2 (((cc0_scratch8 : DmaSems sig S4).slice (Rect.unit (s := S4) off S1.size inb)).squeeze S_ squeezes_S1_S_).sem src
            ((Memref.whole cc0_scratch3 : Memref sig .tc .vmem S4x128 .f32).slice (Rect.unit (s := S4x128) off2 S1x128.size inb2) hs2)
            hsrc hdst) k) Q) :=
  op_take m ρ c K (arecv_sem j h) (.arecv j) (use_arecv j) (arecvQ_ge j) (if_neg hj) (src := src)
    (dst := (Memref.whole cc0_scratch3 : Memref sig .tc .vmem S4x128 .f32).slice (Rect.unit (s := S4x128) off2 S1x128.size inb2) hs2) (hN := rfl) (above_debt0 c _)

/-- Wait for the maxima to have left for device `c + d`. -/
theorem op_asent (K : Dev nD × Fin 19 → ℕ) (d : Fin 4) (hd : d ≠ 0) {sm : DmaSem sig} (hsm : sm = asendQ d)
    {sp : Space} {s : Shape} {e : EltTy} {src : Memref sig .tc sp s e}
    {off2 : Fin 2 → ℕ} {inb2 : ∀ a, off2 a + S1x128.size a ≤ S4x128.size a} {hs2} {hsrc : src.view.WordExact} {hdst}
    {k : PUnit → Prog (TpuEff nD τ sig (Elt F) Λ₀ .tc) α} :
    iprop(recs m ρ K ∗ levAts L lv ∗ due (F := F) c (asendQ d) NA ∗ ow c (debt c 0))
      ⊢ iprop(((ow c (debt c 0) ∗ done (F := F) c (asendQ d) ∗ pc c cc0_scratch3 (amR c).set (shr d) (amF m ρ)) -∗ W c (k ⟨⟩) Q)
        -∗ W c (.op (.waitDma2 sm src
            ((Memref.whole cc0_scratch3 : Memref sig .tc .vmem S4x128 .f32).slice (Rect.unit (s := S4x128) off2 S1x128.size inb2) hs2)
            hsrc hdst) k) Q) :=
  op_take m ρ c K hsm (.asend d) (use_asend d) (asendQ_ge d) (if_neg hd) (src := src)
    (dst := (Memref.whole cc0_scratch3 : Memref sig .tc .vmem S4x128 .f32).slice (Rect.unit (s := S4x128) off2 S1x128.size inb2) hs2) (hN := rfl) (above_debt0 c _)

/-! ## Loads and stores -/

omit [FloatOps F] [Named F] in
theorem idx_o {inb : ∀ a, (![0, 0] : Fin 2 → ℕ) a + S1024x2048.size a ≤ S1024x2048.size a} (i : S1024x2048.Idx) :
    (Rect.unit (s := S1024x2048) ![0, 0] S1024x2048.size inb).idx i = i := by
  funext a; refine Fin.ext ?_
  match a with
  | ⟨0, _⟩ => show 0 + 1 * (i 0).val = (i 0).val; omega
  | ⟨1, _⟩ => show 0 + 1 * (i 1).val = (i 1).val; omega

/-- Block `j` of `x`. -/
theorem op_xload (j : Fin 4) {off : Fin 2 → ℕ} (hoff : off = ![1024 * j.val, 0]) {inb : ∀ a, off a + S1024x1024.size a ≤ S4096x1024.size a} {hl}
    {k : Vec F S1024x1024 .f32 → Prog (TpuEff nD τ sig (Elt F) Λ₀ .tc) α} :
    pc c cc0_stg0_0 Finset.univ fullShare (xF m ρ c) ⊢ iprop((pc c cc0_stg0_0 Finset.univ fullShare (xF m ρ c) -∗ W c (k (fun i => xF m ρ c ((rowR j).idx i))) Q)
      -∗ W c (.op (.load (Memref.whole cc0_stg0_0 : Memref sig .tc .vmem S4096x1024 .f32) (Rect.unit (s := S4096x1024) off S1024x1024.size inb).toLoadRect hl) k) Q) :=
  st_load c (M := (Memref.whole cc0_stg0_0 : Memref sig .tc .vmem S4096x1024 .f32)) hoff (inb' := inb_row j) (fun _ _ => Finset.mem_univ _) _ (fun _ => rfl)

/-- Block `j` of the truncated rows, whatever it holds. -/
theorem op_xbload (j : Fin 4) {off : Fin 2 → ℕ} (hoff : off = ![1024 * j.val, 0]) {inb : ∀ a, off a + S1024x1024.size a ≤ S4096x1024.size a} {hl} {f}
    {k : Vec F S1024x1024 .bf16 → Prog (TpuEff nD τ sig (Elt F) Λ₀ .tc) α} :
    pc c cc0_scratch0 (rowR j).set fullShare f ⊢ iprop((pc c cc0_scratch0 (rowR j).set fullShare f -∗ W c (k (fun i => f ((rowR j).idx i))) Q)
      -∗ W c (.op (.load (Memref.whole cc0_scratch0 : Memref sig .tc .vmem S4096x1024 .bf16) (Rect.unit (s := S4096x1024) off S1024x1024.size inb).toLoadRect hl) k) Q) :=
  st_load c (M := (Memref.whole cc0_scratch0 : Memref sig .tc .vmem S4096x1024 .bf16)) hoff (inb' := inb_row j) (fun _ h => h) _ (fun _ => rfl)

/-- Block `j` of the truncated rows filled. -/
theorem op_xbstore (j : Fin 4) {off : Fin 2 → ℕ} (hoff : off = ![1024 * j.val, 0]) {inb : ∀ a, off a + S1024x1024.size a ≤ S4096x1024.size a} {w} {hx hm} {f}
    (hw : w = fun i => xbF m ρ c ((rowR j).idx i))
    {k : PUnit → Prog (TpuEff nD τ sig (Elt F) Λ₀ .tc) α} :
    pc c cc0_scratch0 (rowR j).set fullShare f ⊢ iprop((pc c cc0_scratch0 (rowR j).set fullShare (xbF m ρ c) -∗ W c (k ⟨⟩) Q)
      -∗ W c (.op (.store (Memref.whole cc0_scratch0 : Memref sig .tc .vmem S4096x1024 .bf16) (Rect.unit (s := S4096x1024) off S1024x1024.size inb) w Finset.univ hx hm) k) Q) :=
  st_store c (M := (Memref.whole cc0_scratch0 : Memref sig .tc .vmem S4096x1024 .bf16)) hoff (inb' := inb_row j) (View.set_slice_whole _ _) (xbF m ρ c) (fun i => congrFun hw i)

/-- Half `b` of the own block. -/
theorem op_xoload (b : Fin 2) {off : Fin 2 → ℕ} (hoff : off = ![1024 * c.val, 512 * b.val]) {inb : ∀ a, off a + S1024x512.size a ≤ S4096x1024.size a} {hl}
    {k : Vec F S1024x512 .bf16 → Prog (TpuEff nD τ sig (Elt F) Λ₀ .tc) α} :
    pc c cc0_scratch0 (rowR c).set fullShare (xbF m ρ c) ⊢ iprop((pc c cc0_scratch0 (rowR c).set fullShare (xbF m ρ c) -∗ W c (k (xo m ρ c b)) Q)
      -∗ W c (.op (.load (Memref.whole cc0_scratch0 : Memref sig .tc .vmem S4096x1024 .bf16) (Rect.unit (s := S4096x1024) off S1024x512.size inb).toLoadRect hl) k) Q) :=
  st_load c (M := (Memref.whole cc0_scratch0 : Memref sig .tc .vmem S4096x1024 .bf16)) hoff (inb' := inb_xh c b)
    (fun x hx => Rect.mem_set_unit.mpr fun a => by
      have h := Rect.mem_set_unit.mp hx a
      have hb := b.isLt
      match a with
      | ⟨0, _⟩ => exact h
      | ⟨1, _⟩ =>
        change 512 * b.val ≤ (x 1).val ∧ (x 1).val < 512 * b.val + 512 at h
        show 0 ≤ (x 1).val ∧ (x 1).val < 0 + 1024
        omega) _ (fun _ => rfl)

/-- Half `b` of the block of device `j`. -/
theorem op_xsload (j : Fin 4) (b : Fin 2) {off : Fin 3 → ℕ} (hoff : off = ![j.val, 0, 512 * b.val]) {inb : ∀ a, off a + S1x1024x512.size a ≤ S4x1024x1024.size a} {hl}
    {k : Vec F S1x1024x512 .bf16 → Prog (TpuEff nD τ sig (Elt F) Λ₀ .tc) α} :
    pc c cc0_scratch1 (slotR j).set fullShare (xgF m ρ c) ⊢ iprop((pc c cc0_scratch1 (slotR j).set fullShare (xgF m ρ c) -∗ W c (k (xs m ρ c j b)) Q)
      -∗ W c (.op (.load (Memref.whole cc0_scratch1 : Memref sig .tc .vmem S4x1024x1024 .bf16) (Rect.unit (s := S4x1024x1024) off S1x1024x512.size inb).toLoadRect hl) k) Q) :=
  st_load c (M := (Memref.whole cc0_scratch1 : Memref sig .tc .vmem S4x1024x1024 .bf16)) hoff (inb' := inb_gh j b)
    (fun x hx => Rect.mem_set_unit.mpr fun a => by
      have h := Rect.mem_set_unit.mp hx a
      have hb := b.isLt
      match a with
      | ⟨0, _⟩ => exact h
      | ⟨1, _⟩ => exact h
      | ⟨2, _⟩ =>
        change 512 * b.val ≤ (x 2).val ∧ (x 2).val < 512 * b.val + 512 at h
        show 0 ≤ (x 2).val ∧ (x 2).val < 0 + 1024
        omega) _ (fun _ => rfl)

/-- Half `b` of block `j` of `w`. -/
theorem op_wsload (j : Fin 4) (b : Fin 2) (r : ℕ) {off : Fin 3 → ℕ} (hoff : off = ![b.val, 0, 0]) {inb : ∀ a, off a + S1x512x2048.size a ≤ S2x512x2048.size a} {hl}
    {k : Vec F S1x512x2048 .f32 → Prog (TpuEff nD τ sig (Elt F) Λ₀ .tc) α} :
    wHave m c j b r ⊢ iprop((wHave m c j b r -∗ W c (k (ws m c j b)) Q)
      -∗ W c (.op (.load (Memref.whole cc0_scratch2 : Memref sig .tc .vmem S2x512x2048 .f32) (Rect.unit (s := S2x512x2048) off S1x512x2048.size inb).toLoadRect hl) k) Q) := by
  unfold wHave
  iintro ⟨H, Ha, Hr⟩ Hk
  iapply (st_load c (M := (Memref.whole cc0_scratch2 : Memref sig .tc .vmem S2x512x2048 .f32)) hoff (inb' := inb_half b) (fun _ h => h) (ws m c j b) (fun _ => rfl)) $$ H
  iintro H
  iapply Hk
  isplitl [H]; · iexact H
  isplitl [Ha]; · iexact Ha
  iexact Hr

/-- The accumulator. -/
theorem op_oload {f : Buf (Elt F) ((c : Thread nD τ).loc cc0_stg1_0)} {off : Fin 2 → ℕ} (hoff : off = ![0, 0]) {inb : ∀ a, off a + S1024x2048.size a ≤ S1024x2048.size a} {hl}
    {k : Vec F S1024x2048 .f32 → Prog (TpuEff nD τ sig (Elt F) Λ₀ .tc) α} :
    pc c cc0_stg1_0 Finset.univ fullShare f ⊢ iprop((pc c cc0_stg1_0 Finset.univ fullShare f -∗ W c (k f) Q)
      -∗ W c (.op (.load (Memref.whole cc0_stg1_0 : Memref sig .tc .vmem S1024x2048 .f32) (Rect.unit (s := S1024x2048) off S1024x2048.size inb).toLoadRect hl) k) Q) :=
  st_load c (M := (Memref.whole cc0_stg1_0 : Memref sig .tc .vmem S1024x2048 .f32)) hoff (inb' := inb_S1024x2048_S1024x2048_0_0) (fun _ _ => Finset.mem_univ _) _
    (fun i => congrArg f (idx_o i))

/-- The accumulator replaced. -/
theorem op_ostore {f : Buf (Elt F) ((c : Thread nD τ).loc cc0_stg1_0)} (g : FVec F S1024x2048 .f32) {off : Fin 2 → ℕ} (hoff : off = ![0, 0]) {inb : ∀ a, off a + S1024x2048.size a ≤ S1024x2048.size a} {hx hm} {w}
    (hw : w = g)
    {k : PUnit → Prog (TpuEff nD τ sig (Elt F) Λ₀ .tc) α} :
    pc c cc0_stg1_0 Finset.univ fullShare f ⊢ iprop((pc (F := F) c cc0_stg1_0 Finset.univ fullShare g -∗ W c (k ⟨⟩) Q)
      -∗ W c (.op (.store (Memref.whole cc0_stg1_0 : Memref sig .tc .vmem S1024x2048 .f32) (Rect.unit (s := S1024x2048) off S1024x2048.size inb) w Finset.univ hx hm) k) Q) :=
  st_store c (M := (Memref.whole cc0_stg1_0 : Memref sig .tc .vmem S1024x2048 .f32)) hoff (inb' := inb_S1024x2048_S1024x2048_0_0)
    ((View.set_slice_whole _ _).trans (Finset.eq_univ_iff_forall.mpr fun x => Rect.mem_set_unit.mpr fun a => by
      match a with
      | ⟨0, _⟩ => exact ⟨Nat.zero_le _, (Nat.zero_add _).symm ▸ (x 0).isLt⟩
      | ⟨1, _⟩ => exact ⟨Nat.zero_le _, (Nat.zero_add _).symm ▸ (x 1).isLt⟩)) g
    (fun i => (congrFun hw i).trans (congrArg g (idx_o i)).symm)

end Steps

end Cert.Proof.Run

end
-- ==== Proof.Parts.lean ====
/-
# The first parts of the kernel

The body is printed in seventeen parts; a lemma each. Here the parts up to the products of the own block.
-/
module

public import proofs.«01_k».proof.Proof.Ops

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## What the parts pass on -/

def xIs (c : Dev nD) : sProp 𝕄 := pc c cc0_stg0_0 Finset.univ fullShare (xF m ρ c)
def rowAny (c : Dev nD) (j : Fin 4) : sProp 𝕄 := iprop(∃ f, pc (F := F) c cc0_scratch0 (rowR j).set fullShare f)
def rowIs (c : Dev nD) (j : Fin 4) : sProp 𝕄 := pc c cc0_scratch0 (rowR j).set fullShare (xbF m ρ c)
def slotIs (c : Dev nD) (j : Fin 4) : sProp 𝕄 := pc c cc0_scratch1 (slotR j).set fullShare (xgF m ρ c)
def oIs (c : Dev nD) (f : FVec F S1024x2048 .f32) : sProp 𝕄 := pc (F := F) c cc0_stg1_0 Finset.univ fullShare f
def amIs (c : Dev nD) (j : Fin 4) (q : PosShare TreeShare) : sProp 𝕄 := pc c cc0_scratch3 (amR j).set q (amF m ρ)
/-- What sending block `c + d` takes beside the block. -/
def sendRes (c : Dev nD) (d : Fin 4) : sProp 𝕄 :=
  iprop(spot (F := F) (c + d) c ∗ dutyTok ER (dC c (sendQ d)) 0 0 ∗ dutyTok ER (dC (c + d) (recvQ c)) 0 0 ∗ atPos ER (dC c (sendQ d)) 0 ∅ 0)
/-- What sending the maxima to device `c + d` takes beside them. -/
def asendRes (c : Dev nD) (d : Fin 4) : sProp 𝕄 :=
  iprop(aspot (F := F) (c + d) c ∗ dutyTok ER (dC c (asendQ d)) 0 0 ∗ dutyTok ER (dC (c + d) (arecvQ c)) 0 0 ∗ atPos ER (dC c (asendQ d)) 0 ∅ 0)

theorem blk_own : ∀ c : Dev nD, blk c 0 = c := by decide

theorem add_own : ∀ c : Dev nD, c + 0 = c := by decide

theorem off1_own (c : Dev nD) (b : Fin 2) : k0_off1 c 0#32 (BitVec.ofNat 32 b.val) = ![512 * (2 * c.val + b.val), 0] := by
  have h := off1_eq c 0 b
  rwa [add_own c] at h

theorem cast_row (e : EltTy) (g : Vec F S1024x1024 e) : shapeCast S1024x1024 g shapeCasts_S1024x1024_S1024x1024 = g := by
  funext i
  exact congrArg g (Shape.reshapeEquiv_self _ i)

theorem pay_any (g : FVec F S1024x1024 .f32) : k0_pay4 (F := F) g = truncf .bf16 g bitsLt_bf16_f32 := by
  unfold k0_pay4
  exact (cast_row (F := F) .bf16 _).trans (congrArg (fun h => truncf .bf16 h bitsLt_bf16_f32) (cast_row (F := F) .f32 g))

/-- Truncating what a load of block `j` of `x` reads gives that block of the truncated rows. -/
theorem pay_row (c : Dev nD) (j : Fin 4) : k0_pay4 (F := F) (fun i => xF m ρ c ((rowR j).idx i)) = fun i => xbF m ρ c ((rowR j).idx i) := by
  rw [pay_any (F := F)]
  funext i
  unfold xbF
  simp only [truncf]

theorem W_ret {α : Type} {Q : α → sProp (MT nD τ sig Unit (Elt F) ℕ UU ℕ)} (c : Dev nD) (a : α) : Q a ⊢ W (F := F) c (.ret a) Q := by
  unfold W
  rw [wp_ret]
  iintro H
  imodintro
  iexact H

section Parts
variable {c : Dev nD} (K : Dev nD × Fin 19 → ℕ)

theorem part1 {Q : (Σ' (d0 : Dev nD) (v2 : BitVec 32) (v3 : Sems sig S_) (v30 : BitVec 32) (c4_i32_18 : BitVec 32), BitVec 1) → sProp (MT nD τ sig Unit (Elt F) ℕ UU ℕ)} :
    iprop(recs m ρ K ∗ ow c (debt c 9) ∗ dutyTok ER (barC (c + 1)) 0 1 ∗ lent (F := F) c (c + 1) ∗ dutyTok ER (barC (c + 2)) 0 2 ∗ lent (F := F) c (c + 2))
      ⊢ iprop((∀ v2 v30 c4 v31, ow c (debt c 7) -∗ Q ⟨c, v2, SemArray.scalar (sig.barrier 0 rfl), v30, c4, v31⟩)
        -∗ W c (k0_part1 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q) := by
  rw [k0_part1_eq_skeleton]; unfold k0_part1_skel
  simp only [semSignalWord, Prog.lift, Prog.bind_op, Prog.bind_ret, Prog.pure_eq_ret, wp_deviceId]
  iintro ⟨#HR, Ho, Ht1, Hl1, Ht2, Hl2⟩ Hk
  rw [debt_succ c 8]
  iapply (st_signal m ρ c K 1 (by decide) (dev_eqs c).1 rfl (debt c 8)) $$ [Ho Ht1 Hl1]
  · isplitr; · iexact HR
    isplitl [Ho]; · iexact Ho
    isplitl [Ht1]; · iexact Ht1
    iexact Hl1
  iintro Ho
  rw [debt_succ c 7]
  iapply (st_signal m ρ c K 2 (by decide) (dev_eqs c).2.1 rfl (debt c 7)) $$ [Ho Ht2 Hl2]
  · isplitr; · iexact HR
    isplitl [Ho]; · iexact Ho
    isplitl [Ht2]; · iexact Ht2
    iexact Hl2
  iintro Ho
  iapply (W_ret c _)
  iapply Hk $$ Ho

theorem part2 {v2 v30 c4 : BitVec 32} {v31 : BitVec 1} {Q : (Σ' (v53 : BitVec 32) (v64 : BitVec 32), BitVec 32) → sProp (MT nD τ sig Unit (Elt F) ℕ UU ℕ)} :
    iprop(recs m ρ K ∗ levAts L lv ∗ ow c (debt c 7) ∗ dutyTok ER (barC (c + 3)) 0 3 ∗ lent (F := F) c (c + 3) ∗ cred (tallyAt (barC c) () 3) ∗ atPos ER (barC c) 0 ∅ 0)
      ⊢ iprop((∀ v53 v64 v65, (ow c (debt c 6) ∗ atPos ER (barC c) 1 ∅ 0 ∗ lent (F := F) (c + 1) c ∗ lent (F := F) (c + 2) c ∗ lent (F := F) (c + 3) c) -∗ Q ⟨v53, v64, v65⟩)
        -∗ W c (k0_part2 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 (SemArray.scalar (sig.barrier 0 rfl)) v30 c4 v31) Q) := by
  rw [k0_part2_eq_skeleton]; unfold k0_part2_skel
  simp only [semSignalWord, semWaitWord, Prog.lift, Prog.bind_op, Prog.bind_ret, Prog.pure_eq_ret]
  iintro ⟨#HR, #Hl, Ho, Ht1, Hl1, Hc, Ha⟩ Hk
  rw [debt_succ c 6]
  iapply (st_signal m ρ c K 3 (by decide) (dev_eqs c).2.2.1 rfl (debt c 6)) $$ [Ho Ht1 Hl1]
  · isplitr; · iexact HR
    isplitl [Ho]; · iexact Ho
    isplitl [Ht1]; · iexact Ht1
    iexact Hl1
  iintro Ho
  iapply (st_barwait m ρ c K rfl (above_debt6 c)) $$ [Hc Ho Ha]
  · isplitr; · iexact HR
    isplitr; · iexact Hl
    isplitl [Hc]; · iexact Hc
    isplitl [Ho]; · iexact Ho
    iexact Ha
  iintro H
  iapply (W_ret c _)
  iapply Hk $$ H

theorem part3 {v2 v53 v64 v65 : BitVec 32} {Q : (Σ' (v75 : BitVec 32) (v86 : BitVec 32) (v88 : BitVec 32) (v90 : BitVec 32) (v92 : BitVec 32) (v94 : BitVec 32) (v96 : BitVec 32) (v98 : BitVec 32), BitVec 32) → sProp (MT nD τ sig Unit (Elt F) ℕ UU ℕ)} :
    iprop(∀ v75 v86 v88 v90 v92 v94 v96 v98 v99, Q ⟨v75, v86, v88, v90, v92, v94, v96, v98, v99⟩)
      ⊢ W c (k0_part3 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 v2 v53 v64 v65) Q := by
  rw [k0_part3_eq_skeleton]; unfold k0_part3_skel
  simp only [Prog.pure_eq_ret]
  iintro Hk
  iapply (W_ret c _)
  iapply Hk

theorem part4 {v2 v86 v88 v90 v99 : BitVec 32} {Q : (Σ' (v100 : BitVec 32) (v102 : BitVec 32) (v125 : BitVec 32), FVec F S1024x1024 .bf16) → sProp (MT nD τ sig Unit (Elt F) ℕ UU ℕ)} :
    iprop(recs m ρ K ∗ (wChunk m c c 0 ∗ wRdy (F := F) c 0 0 ∗ dutyTok ER (dC c (wQ 0)) 0 0) ∗ (wChunk m c c 1 ∗ wRdy (F := F) c 1 0 ∗ dutyTok ER (dC c (wQ 1)) 0 0) ∗ xIs m ρ c)
      ⊢ iprop((∀ v100 v102 v125, (wFly (F := F) c 0 0 ∗ wFly (F := F) c 1 0 ∗ xIs m ρ c) -∗ Q ⟨v100, v102, v125, k0_pay2 (fun i => xF m ρ c ((rowR (c + 1)).idx i))⟩)
        -∗ W c (k0_part4 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v86 v88 v90 v99) Q) := by
  rw [k0_part4_eq_skeleton]; unfold k0_part4_skel
  simp only [Prog.lift, Prog.bind_op, Prog.bind_ret, Prog.pure_eq_ret]
  unfold xIs
  iintro ⟨#HR, ⟨Hw0, Hr0, Ht0⟩, ⟨Hw1, Hr1, Ht1⟩, Hx⟩ Hk
  iapply (op_wstart m ρ c K 0 c 0 (by decide) (blk_own c) (off1_own c 0) rfl (w_sems 0 _)) $$ [Hw0 Hr0 Ht0]
  · isplitr; · iexact HR
    isplitl [Hw0]; · iexact Hw0
    isplitl [Hr0]; · iexact Hr0
    iexact Ht0
  iintro Hf0
  iapply (op_wstart m ρ c K 1 c 0 (by decide) (blk_own c) (off1_own c 1) rfl (w_sems 1 _)) $$ [Hw1 Hr1 Ht1]
  · isplitr; · iexact HR
    isplitl [Hw1]; · iexact Hw1
    isplitl [Hr1]; · iexact Hr1
    iexact Ht1
  iintro Hf1
  iapply (op_xload m ρ c (c + 1) (off2_eq c 0)) $$ Hx
  iintro Hx
  iapply (W_ret c _)
  iapply Hk
  isplitl [Hf0]; · iexact Hf0
  isplitl [Hf1]; · iexact Hf1
  iexact Hx

theorem part5 {v2 v125 : BitVec 32} {Q : (Σ' (v156 : BitVec 32), BitVec 32) → sProp (MT nD τ sig Unit (Elt F) ℕ UU ℕ)} :
    iprop(recs m ρ K ∗ rowAny (F := F) c (c + 1) ∗ sendRes (F := F) c 1 ∗ ow c (debt c 6) ∗ xIs m ρ c ∗ rowAny (F := F) c (c + 2))
      ⊢ iprop((∀ v156 v157, (due (F := F) c (sendQ 1) NX ∗ ow c (debt c 5) ∗ xIs m ρ c ∗ rowIs m ρ c (c + 2)) -∗ Q ⟨v156, v157⟩)
        -∗ W c (k0_part5 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v125 (k0_pay2 (fun i => xF m ρ c ((rowR (c + 1)).idx i)))) Q) := by
  rw [k0_part5_eq_skeleton]; unfold k0_part5_skel
  simp only [Prog.lift, Prog.bind_op, Prog.bind_ret, Prog.pure_eq_ret]
  unfold xIs rowAny rowIs sendRes
  iintro ⟨#HR, ⟨%f, Hr1⟩, ⟨Hs, Ht1, Ht2, Ha⟩, Ho, Hx, ⟨%g, Hr2⟩⟩ Hk
  iapply (op_xbload c (c + 1) (off2_eq c 0)) $$ Hr1
  iintro Hr1
  iapply (op_xbstore m ρ c (c + 1) (off2_eq c 0) (pay_row m ρ c (c + 1))) $$ Hr1
  iintro Hr1
  iapply (op_send m ρ c K 1 (by decide) (dev_eqs c).2.2.2.1 (off5_eq c 0) (k0_off4_eq c) (send_sems 1 _) (recv_sem c (k0_off3_eq c)) 5 (debt_succ c 5)) $$ [Hr1 Hs Ho Ht1 Ht2 Ha]
  · isplitr; · iexact HR
    isplitl [Hr1]; · iexact Hr1
    isplitl [Hs]; · iexact Hs
    isplitl [Ho]; · iexact Ho
    isplitl [Ht1]; · iexact Ht1
    isplitl [Ht2]; · iexact Ht2
    iexact Ha
  iintro ⟨Hd, Ho⟩
  iapply (op_xload m ρ c (c + 2) (off2_eq c 1)) $$ Hx
  iintro Hx
  iapply (op_xbload c (c + 2) (off2_eq c 1)) $$ Hr2
  iintro Hr2
  iapply (op_xbstore m ρ c (c + 2) (off2_eq c 1) (pay_row m ρ c (c + 2))) $$ Hr2
  iintro Hr2
  iapply (W_ret c _)
  iapply Hk
  isplitl [Hd]; · iexact Hd
  isplitl [Ho]; · iexact Ho
  isplitl [Hx]; · iexact Hx
  iexact Hr2

theorem part6 {v2 v156 v157 : BitVec 32} {Q : PUnit → sProp (MT nD τ sig Unit (Elt F) ℕ UU ℕ)} :
    iprop(recs m ρ K ∗ rowIs m ρ c (c + 2) ∗ sendRes (F := F) c 2 ∗ ow c (debt c 5) ∗ xIs m ρ c ∗ rowAny (F := F) c (c + 3))
      ⊢ iprop(((due (F := F) c (sendQ 2) NX ∗ ow c (debt c 4) ∗ xIs m ρ c ∗ rowIs m ρ c (c + 3)) -∗ Q ⟨⟩)
        -∗ W c (k0_part6 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v156 v157) Q) := by
  rw [k0_part6_eq_skeleton]; unfold k0_part6_skel
  simp only [Prog.lift, Prog.bind_op, Prog.bind_ret, Prog.pure_eq_ret]
  unfold xIs rowAny rowIs sendRes
  iintro ⟨#HR, Hr1, ⟨Hs, Ht1, Ht2, Ha⟩, Ho, Hx, ⟨%g, Hr2⟩⟩ Hk
  iapply (op_send m ρ c K 2 (by decide) (dev_eqs c).2.2.2.2.1 (off5_eq c 1) (k0_off4_eq c) (send_sems 2 _) (recv_sem c (k0_off3_eq c)) 4 (debt_succ c 4)) $$ [Hr1 Hs Ho Ht1 Ht2 Ha]
  · isplitr; · iexact HR
    isplitl [Hr1]; · iexact Hr1
    isplitl [Hs]; · iexact Hs
    isplitl [Ho]; · iexact Ho
    isplitl [Ht1]; · iexact Ht1
    isplitl [Ht2]; · iexact Ht2
    iexact Ha
  iintro ⟨Hd, Ho⟩
  iapply (op_xload m ρ c (c + 3) (off2_eq c 2)) $$ Hx
  iintro Hx
  iapply (op_xbload c (c + 3) (off2_eq c 2)) $$ Hr2
  iintro Hr2
  iapply (op_xbstore m ρ c (c + 3) (off2_eq c 2) (pay_row m ρ c (c + 3))) $$ Hr2
  iintro Hr2
  iapply (W_ret c _)
  iapply Hk
  isplitl [Hd]; · iexact Hd
  isplitl [Ho]; · iexact Ho
  isplitl [Hx]; · iexact Hx
  iexact Hr2

theorem part7 {v2 v92 : BitVec 32} {f₀ : FVec F S1024x2048 .f32} {Q : PUnit → sProp (MT nD τ sig Unit (Elt F) ℕ UU ℕ)} :
    iprop(recs m ρ K ∗ levAts L lv ∗ rowIs m ρ c (c + 3) ∗ sendRes (F := F) c 3 ∗ ow c (debt c 4) ∗ xIs m ρ c ∗ rowAny (F := F) c c ∗ wFly (F := F) c 0 0 ∗ oIs c f₀)
      ⊢ iprop(((due (F := F) c (sendQ 3) NX ∗ ow c (debt c 3) ∗ xIs m ρ c ∗ rowIs m ρ c c ∗ wHave m c c 0 0 ∗ wChunk m c c 0 ∗ oIs c (acc0 m ρ c)) -∗ Q ⟨⟩)
        -∗ W c (k0_part7 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v92) Q) := by
  rw [k0_part7_eq_skeleton]; unfold k0_part7_skel
  simp only [Prog.lift, Prog.bind_op, Prog.bind_ret, Prog.pure_eq_ret]
  unfold xIs rowAny rowIs sendRes oIs
  iintro ⟨#HR, #Hl, Hr1, ⟨Hs, Ht1, Ht2, Ha⟩, Ho, Hx, ⟨%g, Hr2⟩, Hf, Hout⟩ Hk
  iapply (op_send m ρ c K 3 (by decide) (dev_eqs c).2.2.2.2.2.1 (off5_eq c 2) (k0_off4_eq c) (send_sems 3 _) (recv_sem c (k0_off3_eq c)) 3 (debt_succ c 3)) $$ [Hr1 Hs Ho Ht1 Ht2 Ha]
  · isplitr; · iexact HR
    isplitl [Hr1]; · iexact Hr1
    isplitl [Hs]; · iexact Hs
    isplitl [Ho]; · iexact Ho
    isplitl [Ht1]; · iexact Ht1
    isplitl [Ht2]; · iexact Ht2
    iexact Ha
  iintro ⟨Hd, Ho⟩
  iapply (op_xload m ρ c c (k0_off6_eq c)) $$ Hx
  iintro Hx
  iapply (op_xbload c c (k0_off6_eq c)) $$ Hr2
  iintro Hr2
  iapply (op_xbstore m ρ c c (k0_off6_eq c) (pay_row m ρ c c)) $$ Hr2
  iintro Hr2
  iapply (op_wwait m ρ c K 0 c 0 (by decide) (blk_own c) (w_sems 0 _)) $$ [Hf Ho]
  · isplitr; · iexact HR
    isplitr; · iexact Hl
    isplitl [Hf]; · iexact Hf
    iexact Ho
  iintro ⟨Ho, Hh, Hw⟩
  iapply (op_xoload m ρ c 0 (k0_off7_eq c)) $$ Hr2
  iintro Hr2
  iapply (op_wsload m c c 0 0 rfl) $$ Hh
  iintro Hh
  iapply (op_oload c rfl) $$ Hout
  iintro Hout
  iapply (op_ostore c (acc0 m ρ c) rfl rfl) $$ Hout
  iintro Hout
  iapply (W_ret c _)
  iapply Hk
  isplitl [Hd]; · iexact Hd
  isplitl [Ho]; · iexact Ho
  isplitl [Hx]; · iexact Hx
  isplitl [Hr2]; · iexact Hr2
  isplitl [Hh]; · iexact Hh
  isplitl [Hw]; · iexact Hw
  iexact Hout

theorem part8 {v2 v64 v94 : BitVec 32} {Q : PUnit → sProp (MT nD τ sig Unit (Elt F) ℕ UU ℕ)} :
    iprop(recs m ρ K ∗ levAts L lv ∗ ow c (debt c 3) ∗ (wHave m c c 0 0 ∗ wChunk m c (c + 3) 0 ∗ dutyTok ER (dC c (wQ 0)) 1 0) ∗ wFly (F := F) c 1 0
        ∗ rowIs m ρ c c ∗ oIs c (acc0 m ρ c) ∗ (wChunk m c (c + 3) 1 ∗ dutyTok ER (dC c (wQ 1)) 1 0))
      ⊢ iprop(((ow c (debt c 3) ∗ wFly (F := F) c 0 1 ∗ wChunk m c c 1 ∗ rowIs m ρ c c ∗ oIs c (acc1 m ρ c) ∗ wFly (F := F) c 1 1) -∗ Q ⟨⟩)
        -∗ W c (k0_part8 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v64 v94) Q) := by
  rw [k0_part8_eq_skeleton]; unfold k0_part8_skel
  simp only [Prog.lift, Prog.bind_op, Prog.bind_ret, Prog.pure_eq_ret]
  unfold rowIs oIs
  iintro ⟨#HR, #Hl, Ho, ⟨Hh0, Hw0, Ht0⟩, Hf1, Hr, Hout, ⟨Hw1, Ht1⟩⟩ Hk
  ihave Hy0 := (wRdy_of_have m c c 0 0) $$ Hh0
  iapply (op_wstart m ρ c K 0 (c + 3) 1 (by decide) (blk_eqs c).2.1 (off1_eq c 3 0) rfl (w_sems 0 _)) $$ [Hw0 Hy0 Ht0]
  · isplitr; · iexact HR
    isplitl [Hw0]; · iexact Hw0
    isplitl [Hy0]; · iexact Hy0
    iexact Ht0
  iintro Hf0
  iapply (op_wwait m ρ c K 1 c 0 (by decide) (blk_own c) (w_sems 1 _)) $$ [Hf1 Ho]
  · isplitr; · iexact HR
    isplitr; · iexact Hl
    isplitl [Hf1]; · iexact Hf1
    iexact Ho
  iintro ⟨Ho, Hh1, Hw⟩
  iapply (op_xoload m ρ c 1 (k0_off8_eq c)) $$ Hr
  iintro Hr
  iapply (op_wsload m c c 1 0 rfl) $$ Hh1
  iintro Hh1
  iapply (op_oload c rfl) $$ Hout
  iintro Hout
  iapply (op_oload c rfl) $$ Hout
  iintro Hout
  iapply (op_ostore c (acc1 m ρ c) rfl rfl) $$ Hout
  iintro Hout
  ihave Hy1 := (wRdy_of_have m c c 1 0) $$ Hh1
  iapply (op_wstart m ρ c K 1 (c + 3) 1 (by decide) (blk_eqs c).2.1 (off1_eq c 3 1) rfl (w_sems 1 _)) $$ [Hw1 Hy1 Ht1]
  · isplitr; · iexact HR
    isplitl [Hw1]; · iexact Hw1
    isplitl [Hy1]; · iexact Hy1
    iexact Ht1
  iintro Hf1
  iapply (W_ret c _)
  iapply Hk
  isplitl [Ho]; · iexact Ho
  isplitl [Hf0]; · iexact Hf0
  isplitl [Hw]; · iexact Hw
  isplitl [Hr]; · iexact Hr
  isplitl [Hout]; · iexact Hout
  iexact Hf1

end Parts

end Cert.Proof.Run

end
-- ==== Proof.Parts2.lean ====
/-
# The later parts of the kernel

The products of the received blocks, and the exchange of the maxima.
-/
module

public import proofs.«01_k».proof.Proof.Parts

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem ne_add : ∀ (c : Dev nD) (d : Fin 4), d ≠ 0 → c + d ≠ c := by decide

variable {α : Type} {Q : α → sProp (MT nD τ sig Unit (Elt F) ℕ UU ℕ)}

/-- Row `c` of the table of maxima, whatever it holds. -/
theorem op_amload (c : Dev nD) {off : Fin 2 → ℕ} (hoff : off = ![c.val, 0]) {inb : ∀ a, off a + S1x128.size a ≤ S4x128.size a} {hl} {f}
    {k : Vec F S1x128 .f32 → Prog (TpuEff nD τ sig (Elt F) Λ₀ .tc) α} :
    pc c cc0_scratch3 (amR c).set fullShare f ⊢ iprop((pc c cc0_scratch3 (amR c).set fullShare f -∗ W c (k (fun i => f ((amR c).idx i))) Q)
      -∗ W c (.op (.load (Memref.whole cc0_scratch3 : Memref sig .tc .vmem S4x128 .f32) (Rect.unit (s := S4x128) off S1x128.size inb).toLoadRect hl) k) Q) :=
  st_load c (M := (Memref.whole cc0_scratch3 : Memref sig .tc .vmem S4x128 .f32)) hoff (inb' := inb_am c) (fun _ h => h) _ (fun _ => rfl)

/-- Where row `c` of the table lies. -/
theorem amR_idx (c : Dev nD) (i : S1x128.Idx) : (((amR c).idx i) 0 : Fin 4) = c ∧ ((((amR c).idx i) 1 : Fin 128)).val = (i 1).val := by
  have h0 : (i 0).val < 1 := (i 0).isLt
  constructor
  · refine Fin.ext ?_
    show c.val + 1 * (i 0).val = c.val
    omega
  · show 0 + 1 * (i 1).val = (i 1).val
    omega

theorem am_row (c : Dev nD) : k0_pay19 (acc7 m ρ c) = fun i => amF m ρ ((amR c).idx i) := by
  funext i
  obtain ⟨h0, h1⟩ := amR_idx c i
  unfold amF
  rw [h0]
  congr 1
  funext a
  match a with
  | ⟨0, _⟩ => exact Fin.ext (by have h : (i 0).val < 1 := (i 0).isLt; show (i 0).val = 0; omega)
  | ⟨1, _⟩ => exact Fin.ext h1.symm

/-- Row `c` filled with the own maximum. -/
theorem op_amstore (c : Dev nD) {off : Fin 2 → ℕ} (hoff : off = ![c.val, 0]) {inb : ∀ a, off a + S1x128.size a ≤ S4x128.size a} {w} {hx hm} {f} (g : (cc0_scratch3 : Ref sig .tc).ty.Contents (Elt F))
    (hw : w = fun i => g ((amR c).idx i))
    {k : PUnit → Prog (TpuEff nD τ sig (Elt F) Λ₀ .tc) α} :
    pc c cc0_scratch3 (amR c).set fullShare f ⊢ iprop((pc c cc0_scratch3 (amR c).set fullShare g -∗ W c (k ⟨⟩) Q)
      -∗ W c (.op (.store (Memref.whole cc0_scratch3 : Memref sig .tc .vmem S4x128 .f32) (Rect.unit (s := S4x128) off S1x128.size inb) w Finset.univ hx hm) k) Q) :=
  st_store c (M := (Memref.whole cc0_scratch3 : Memref sig .tc .vmem S4x128 .f32)) hoff (inb' := inb_am c) (View.set_slice_whole _ _) g (fun i => congrFun hw i)

theorem inb_all : ∀ a, (![0, 0] : Fin 2 → ℕ) a + S4x128.size a ≤ S4x128.size a := by decide

/-- The whole table of maxima. -/
theorem op_amall (c : Dev nD) (g : (cc0_scratch3 : Ref sig .tc).ty.Contents (Elt F)) {off : Fin 2 → ℕ} (hoff : off = ![0, 0]) {inb : ∀ a, off a + S4x128.size a ≤ S4x128.size a} {hl}
    {k : Vec F S4x128 .f32 → Prog (TpuEff nD τ sig (Elt F) Λ₀ .tc) α} :
    pc c cc0_scratch3 Finset.univ fullShare g ⊢ iprop((pc c cc0_scratch3 Finset.univ fullShare g -∗ W c (k g) Q)
      -∗ W c (.op (.load (Memref.whole cc0_scratch3 : Memref sig .tc .vmem S4x128 .f32) (Rect.unit (s := S4x128) off S4x128.size inb).toLoadRect hl) k) Q) :=
  st_load c (M := (Memref.whole cc0_scratch3 : Memref sig .tc .vmem S4x128 .f32)) hoff (inb' := inb_all) (fun _ _ => Finset.mem_univ _) _
    (fun i => congrArg g (by
      funext a; refine Fin.ext ?_
      match a with
      | ⟨0, _⟩ => show 0 + 1 * (i 0).val = (i 0).val; omega
      | ⟨1, _⟩ => show 0 + 1 * (i 1).val = (i 1).val; omega))

section Parts
variable {c : Dev nD} (K : Dev nD × Fin 19 → ℕ)

theorem part9 {v64 v96 : BitVec 32} {Q : PUnit → sProp (MT nD τ sig Unit (Elt F) ℕ UU ℕ)} :
    iprop(recs m ρ K ∗ levAts L lv ∗ ow c (debt c 3) ∗ due (F := F) c (recvQ (c + 3)) NX ∗ wFly (F := F) c 0 1 ∗ oIs c (acc1 m ρ c)
        ∗ (wChunk m c (c + 2) 0 ∗ dutyTok ER (dC c (wQ 0)) 2 0) ∗ wFly (F := F) c 1 1)
      ⊢ iprop(((ow c (debt c 3) ∗ done (F := F) c (recvQ (c + 3)) ∗ slotIs m ρ c (c + 3) ∗ wChunk m c (c + 3) 0 ∗ oIs c (acc2 m ρ c) ∗ wFly (F := F) c 0 2
            ∗ wHave m c (c + 3) 1 1 ∗ wChunk m c (c + 3) 1) -∗ Q ⟨⟩)
        -∗ W c (k0_part9 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v64 v96) Q) := by
  rw [k0_part9_eq_skeleton]; unfold k0_part9_skel
  simp only [Prog.lift, Prog.bind_op, Prog.bind_ret, Prog.pure_eq_ret]
  unfold slotIs oIs
  iintro ⟨#HR, #Hl, Ho, Hd, Hf0, Hout, ⟨Hw0, Ht0⟩, Hf1⟩ Hk
  iapply (op_recv m ρ c K (c + 3) (ne_add c 3 (by decide)) (off9_eq c 2)) $$ [Hd Ho]
  · isplitr; · iexact HR
    isplitr; · iexact Hl
    isplitl [Hd]; · iexact Hd
    iexact Ho
  iintro ⟨Ho, Hd, Hs⟩
  iapply (op_wwait m ρ c K 0 (c + 3) 1 (by decide) (blk_eqs c).2.1 (w_sems 0 _)) $$ [Hf0 Ho]
  · isplitr; · iexact HR
    isplitr; · iexact Hl
    isplitl [Hf0]; · iexact Hf0
    iexact Ho
  iintro ⟨Ho, Hh0, Hw⟩
  iapply (op_xsload m ρ c (c + 3) 0 (off11_eq c 2)) $$ Hs
  iintro Hs
  iapply (op_wsload m c (c + 3) 0 1 rfl) $$ Hh0
  iintro Hh0
  iapply (op_oload c rfl) $$ Hout
  iintro Hout
  iapply (op_oload c rfl) $$ Hout
  iintro Hout
  iapply (op_ostore c (acc2 m ρ c) rfl rfl) $$ Hout
  iintro Hout
  ihave Hy0 := (wRdy_of_have m c (c + 3) 0 1) $$ Hh0
  iapply (op_wstart m ρ c K 0 (c + 2) 2 (by decide) (blk_eqs c).2.2.1 (off1_eq c 2 0) rfl (w_sems 0 _)) $$ [Hw0 Hy0 Ht0]
  · isplitr; · iexact HR
    isplitl [Hw0]; · iexact Hw0
    isplitl [Hy0]; · iexact Hy0
    iexact Ht0
  iintro Hf0
  iapply (op_wwait m ρ c K 1 (c + 3) 1 (by decide) (blk_eqs c).2.1 (w_sems 1 _)) $$ [Hf1 Ho]
  · isplitr; · iexact HR
    isplitr; · iexact Hl
    isplitl [Hf1]; · iexact Hf1
    iexact Ho
  iintro ⟨Ho, Hh1, Hw1⟩
  iapply (W_ret c _)
  iapply Hk
  isplitl [Ho]; · iexact Ho
  isplitl [Hd]; · iexact Hd
  isplitl [Hs]; · iexact Hs
  isplitl [Hw]; · iexact Hw
  isplitl [Hout]; · iexact Hout
  isplitl [Hf0]; · iexact Hf0
  isplitl [Hh1]; · iexact Hh1
  iexact Hw1

theorem part10 {v64 v75 v98 : BitVec 32} {Q : PUnit → sProp (MT nD τ sig Unit (Elt F) ℕ UU ℕ)} :
    iprop(recs m ρ K ∗ levAts L lv ∗ ow c (debt c 3) ∗ slotIs m ρ c (c + 3) ∗ wHave m c (c + 3) 1 1 ∗ oIs c (acc2 m ρ c)
        ∗ (wChunk m c (c + 2) 1 ∗ dutyTok ER (dC c (wQ 1)) 2 0) ∗ due (F := F) c (recvQ (c + 2)) NX)
      ⊢ iprop(((ow c (debt c 3) ∗ slotIs m ρ c (c + 3) ∗ oIs c (acc3 m ρ c) ∗ wFly (F := F) c 1 2 ∗ done (F := F) c (recvQ (c + 2)) ∗ slotIs m ρ c (c + 2)) -∗ Q ⟨⟩)
        -∗ W c (k0_part10 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v64 v75 v98) Q) := by
  rw [k0_part10_eq_skeleton]; unfold k0_part10_skel
  simp only [Prog.lift, Prog.bind_op, Prog.bind_ret, Prog.pure_eq_ret]
  unfold slotIs oIs
  iintro ⟨#HR, #Hl, Ho, Hs, Hh1, Hout, ⟨Hw1, Ht1⟩, Hd⟩ Hk
  iapply (op_xsload m ρ c (c + 3) 1 (off12_eq c 2)) $$ Hs
  iintro Hs
  iapply (op_wsload m c (c + 3) 1 1 rfl) $$ Hh1
  iintro Hh1
  iapply (op_oload c rfl) $$ Hout
  iintro Hout
  iapply (op_oload c rfl) $$ Hout
  iintro Hout
  iapply (op_ostore c (acc3 m ρ c) rfl rfl) $$ Hout
  iintro Hout
  ihave Hy1 := (wRdy_of_have m c (c + 3) 1 1) $$ Hh1
  iapply (op_wstart m ρ c K 1 (c + 2) 2 (by decide) (blk_eqs c).2.2.1 (off1_eq c 2 1) rfl (w_sems 1 _)) $$ [Hw1 Hy1 Ht1]
  · isplitr; · iexact HR
    isplitl [Hw1]; · iexact Hw1
    isplitl [Hy1]; · iexact Hy1
    iexact Ht1
  iintro Hf1
  iapply (op_recv m ρ c K (c + 2) (ne_add c 2 (by decide)) (off9_eq c 1)) $$ [Hd Ho]
  · isplitr; · iexact HR
    isplitr; · iexact Hl
    isplitl [Hd]; · iexact Hd
    iexact Ho
  iintro ⟨Ho, Hd, Hs2⟩
  iapply (W_ret c _)
  iapply Hk
  isplitl [Ho]; · iexact Ho
  isplitl [Hs]; · iexact Hs
  isplitl [Hout]; · iexact Hout
  isplitl [Hf1]; · iexact Hf1
  isplitl [Hd]; · iexact Hd
  iexact Hs2

theorem part11 {v75 v100 : BitVec 32} {Q : (Σ' (v348 : FVec F S1024x512 .bf16) (v351 : FVec F S512x2048 .bf16), FVec F S1024x2048 .f32) → sProp (MT nD τ sig Unit (Elt F) ℕ UU ℕ)} :
    iprop(recs m ρ K ∗ levAts L lv ∗ ow c (debt c 3) ∗ wFly (F := F) c 0 2 ∗ slotIs m ρ c (c + 2) ∗ oIs c (acc3 m ρ c)
        ∗ (wChunk m c (c + 1) 0 ∗ dutyTok ER (dC c (wQ 0)) 3 0) ∗ wFly (F := F) c 1 2)
      ⊢ iprop(((ow c (debt c 3) ∗ wChunk m c (c + 2) 0 ∗ slotIs m ρ c (c + 2) ∗ oIs c (acc4 m ρ c) ∗ wFly (F := F) c 0 3 ∗ wHave m c (c + 2) 1 2 ∗ wChunk m c (c + 2) 1)
            -∗ Q ⟨k0_pay12 (xs m ρ c (c + 2) 1), k0_pay13 (ws m c (c + 2) 1), constant S1024x2048 .f32 0x00000000#32⟩)
        -∗ W c (k0_part11 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v75 v100) Q) := by
  rw [k0_part11_eq_skeleton]; unfold k0_part11_skel
  simp only [Prog.lift, Prog.bind_op, Prog.bind_ret, Prog.pure_eq_ret]
  unfold slotIs oIs
  iintro ⟨#HR, #Hl, Ho, Hf0, Hs, Hout, ⟨Hw0, Ht0⟩, Hf1⟩ Hk
  iapply (op_wwait m ρ c K 0 (c + 2) 2 (by decide) (blk_eqs c).2.2.1 (w_sems 0 _)) $$ [Hf0 Ho]
  · isplitr; · iexact HR
    isplitr; · iexact Hl
    isplitl [Hf0]; · iexact Hf0
    iexact Ho
  iintro ⟨Ho, Hh0, Hw⟩
  iapply (op_xsload m ρ c (c + 2) 0 (off11_eq c 1)) $$ Hs
  iintro Hs
  iapply (op_wsload m c (c + 2) 0 2 rfl) $$ Hh0
  iintro Hh0
  iapply (op_oload c rfl) $$ Hout
  iintro Hout
  iapply (op_oload c rfl) $$ Hout
  iintro Hout
  iapply (op_ostore c (acc4 m ρ c) rfl rfl) $$ Hout
  iintro Hout
  ihave Hy0 := (wRdy_of_have m c (c + 2) 0 2) $$ Hh0
  iapply (op_wstart m ρ c K 0 (c + 1) 3 (by decide) (blk_eqs c).2.2.2 (off1_eq c 1 0) rfl (w_sems 0 _)) $$ [Hw0 Hy0 Ht0]
  · isplitr; · iexact HR
    isplitl [Hw0]; · iexact Hw0
    isplitl [Hy0]; · iexact Hy0
    iexact Ht0
  iintro Hf0
  iapply (op_wwait m ρ c K 1 (c + 2) 2 (by decide) (blk_eqs c).2.2.1 (w_sems 1 _)) $$ [Hf1 Ho]
  · isplitr; · iexact HR
    isplitr; · iexact Hl
    isplitl [Hf1]; · iexact Hf1
    iexact Ho
  iintro ⟨Ho, Hh1, Hw1⟩
  iapply (op_xsload m ρ c (c + 2) 1 (off12_eq c 1)) $$ Hs
  iintro Hs
  iapply (op_wsload m c (c + 2) 1 2 rfl) $$ Hh1
  iintro Hh1
  iapply (W_ret c _)
  iapply Hk
  isplitl [Ho]; · iexact Ho
  isplitl [Hw]; · iexact Hw
  isplitl [Hs]; · iexact Hs
  isplitl [Hout]; · iexact Hout
  isplitl [Hf0]; · iexact Hf0
  isplitl [Hh1]; · iexact Hh1
  iexact Hw1

theorem part12 {v86 v102 : BitVec 32} {Q : (Σ' (v378 : FVec F S1024x512 .bf16), FVec F S512x2048 .f32) → sProp (MT nD τ sig Unit (Elt F) ℕ UU ℕ)} :
    iprop(recs m ρ K ∗ levAts L lv ∗ ow c (debt c 3) ∗ oIs c (acc4 m ρ c) ∗ wHave m c (c + 2) 1 2 ∗ (wChunk m c (c + 1) 1 ∗ dutyTok ER (dC c (wQ 1)) 3 0)
        ∗ due (F := F) c (recvQ (c + 1)) NX ∗ wFly (F := F) c 0 3)
      ⊢ iprop(((ow c (debt c 3) ∗ oIs c (acc5 m ρ c) ∗ wFly (F := F) c 1 3 ∗ done (F := F) c (recvQ (c + 1)) ∗ slotIs m ρ c (c + 1) ∗ wHave m c (c + 1) 0 3 ∗ wChunk m c (c + 1) 0)
            -∗ Q ⟨k0_pay15 (xs m ρ c (c + 1) 0), k0_pay16 (ws m c (c + 1) 0)⟩)
        -∗ W c (k0_part12 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v86 v102 (k0_pay12 (xs m ρ c (c + 2) 1)) (k0_pay13 (ws m c (c + 2) 1)) (constant S1024x2048 .f32 0x00000000#32)) Q) := by
  rw [k0_part12_eq_skeleton]; unfold k0_part12_skel
  simp only [Prog.lift, Prog.bind_op, Prog.bind_ret, Prog.pure_eq_ret]
  unfold slotIs oIs
  iintro ⟨#HR, #Hl, Ho, Hout, Hh1, ⟨Hw1, Ht1⟩, Hd, Hf0⟩ Hk
  iapply (op_oload c rfl) $$ Hout
  iintro Hout
  iapply (op_oload c rfl) $$ Hout
  iintro Hout
  iapply (op_ostore c (acc5 m ρ c) rfl rfl) $$ Hout
  iintro Hout
  ihave Hy1 := (wRdy_of_have m c (c + 2) 1 2) $$ Hh1
  iapply (op_wstart m ρ c K 1 (c + 1) 3 (by decide) (blk_eqs c).2.2.2 (off1_eq c 1 1) rfl (w_sems 1 _)) $$ [Hw1 Hy1 Ht1]
  · isplitr; · iexact HR
    isplitl [Hw1]; · iexact Hw1
    isplitl [Hy1]; · iexact Hy1
    iexact Ht1
  iintro Hf1
  iapply (op_recv m ρ c K (c + 1) (ne_add c 1 (by decide)) (off9_eq c 0)) $$ [Hd Ho]
  · isplitr; · iexact HR
    isplitr; · iexact Hl
    isplitl [Hd]; · iexact Hd
    iexact Ho
  iintro ⟨Ho, Hd, Hs⟩
  iapply (op_wwait m ρ c K 0 (c + 1) 3 (by decide) (blk_eqs c).2.2.2 (w_sems 0 _)) $$ [Hf0 Ho]
  · isplitr; · iexact HR
    isplitr; · iexact Hl
    isplitl [Hf0]; · iexact Hf0
    iexact Ho
  iintro ⟨Ho, Hh0, Hw⟩
  iapply (op_xsload m ρ c (c + 1) 0 (off11_eq c 0)) $$ Hs
  iintro Hs
  iapply (op_wsload m c (c + 1) 0 3 rfl) $$ Hh0
  iintro Hh0
  iapply (W_ret c _)
  iapply Hk
  isplitl [Ho]; · iexact Ho
  isplitl [Hout]; · iexact Hout
  isplitl [Hf1]; · iexact Hf1
  isplitl [Hd]; · iexact Hd
  isplitl [Hs]; · iexact Hs
  isplitl [Hh0]; · iexact Hh0
  iexact Hw

theorem part13 {v86 : BitVec 32} {Q : PUnit → sProp (MT nD τ sig Unit (Elt F) ℕ UU ℕ)} :
    iprop(recs m ρ K ∗ levAts L lv ∗ ow c (debt c 3) ∗ oIs c (acc5 m ρ c) ∗ wFly (F := F) c 1 3 ∗ slotIs m ρ c (c + 1) ∗ due (F := F) c (sendQ 1) NX)
      ⊢ iprop(((ow c (debt c 3) ∗ oIs c (acc7 m ρ c) ∗ wHave m c (c + 1) 1 3 ∗ wChunk m c (c + 1) 1 ∗ slotIs m ρ c (c + 1) ∗ done (F := F) c (sendQ 1) ∗ rowIs m ρ c (c + 1)) -∗ Q ⟨⟩)
        -∗ W c (k0_part13 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v86 (k0_pay15 (xs m ρ c (c + 1) 0)) (k0_pay16 (ws m c (c + 1) 0))) Q) := by
  rw [k0_part13_eq_skeleton]; unfold k0_part13_skel
  simp only [Prog.lift, Prog.bind_op, Prog.bind_ret, Prog.pure_eq_ret]
  unfold slotIs oIs rowIs
  iintro ⟨#HR, #Hl, Ho, Hout, Hf1, Hs, Hd⟩ Hk
  iapply (op_oload c rfl) $$ Hout
  iintro Hout
  iapply (op_oload c rfl) $$ Hout
  iintro Hout
  iapply (op_ostore c (acc6 m ρ c) rfl rfl) $$ Hout
  iintro Hout
  iapply (op_wwait m ρ c K 1 (c + 1) 3 (by decide) (blk_eqs c).2.2.2 (w_sems 1 _)) $$ [Hf1 Ho]
  · isplitr; · iexact HR
    isplitr; · iexact Hl
    isplitl [Hf1]; · iexact Hf1
    iexact Ho
  iintro ⟨Ho, Hh1, Hw1⟩
  iapply (op_xsload m ρ c (c + 1) 1 (off12_eq c 0)) $$ Hs
  iintro Hs
  iapply (op_wsload m c (c + 1) 1 3 rfl) $$ Hh1
  iintro Hh1
  iapply (op_oload c rfl) $$ Hout
  iintro Hout
  iapply (op_oload c rfl) $$ Hout
  iintro Hout
  iapply (op_ostore c (acc7 m ρ c) rfl rfl) $$ Hout
  iintro Hout
  iapply (op_sent m ρ c K 1 (by decide) (send_sems 1 _)) $$ [Hd Ho]
  · isplitr; · iexact HR
    isplitr; · iexact Hl
    isplitl [Hd]; · iexact Hd
    iexact Ho
  iintro ⟨Ho, Hd, Hr⟩
  iapply (W_ret c _)
  iapply Hk
  isplitl [Ho]; · iexact Ho
  isplitl [Hout]; · iexact Hout
  isplitl [Hh1]; · iexact Hh1
  isplitl [Hw1]; · iexact Hw1
  isplitl [Hs]; · iexact Hs
  isplitl [Hd]; · iexact Hd
  iexact Hr

theorem part14 {v2 : BitVec 32} {Q : PUnit → sProp (MT nD τ sig Unit (Elt F) ℕ UU ℕ)} :
    iprop(recs m ρ K ∗ levAts L lv ∗ ow c (debt c 3) ∗ due (F := F) c (sendQ 2) NX ∗ due (F := F) c (sendQ 3) NX ∗ oIs c (acc7 m ρ c) ∗ aspot (F := F) c c)
      ⊢ iprop(((ow c (debt c 3) ∗ done (F := F) c (sendQ 2) ∗ rowIs m ρ c (c + 2) ∗ done (F := F) c (sendQ 3) ∗ rowIs m ρ c (c + 3) ∗ oIs c (acc7 m ρ c) ∗ amIs m ρ c c fullShare) -∗ Q ⟨⟩)
        -∗ W c (k0_part14 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q) := by
  rw [k0_part14_eq_skeleton]; unfold k0_part14_skel
  simp only [Prog.lift, Prog.bind_op, Prog.bind_ret, Prog.pure_eq_ret]
  unfold oIs rowIs amIs aspot
  iintro ⟨#HR, #Hl, Ho, Hd2, Hd3, Hout, ⟨%f, Ha⟩⟩ Hk
  iapply (op_sent m ρ c K 2 (by decide) (send_sems 2 _)) $$ [Hd2 Ho]
  · isplitr; · iexact HR
    isplitr; · iexact Hl
    isplitl [Hd2]; · iexact Hd2
    iexact Ho
  iintro ⟨Ho, Hd2, Hr2⟩
  iapply (op_sent m ρ c K 3 (by decide) (send_sems 3 _)) $$ [Hd3 Ho]
  · isplitr; · iexact HR
    isplitr; · iexact Hl
    isplitl [Hd3]; · iexact Hd3
    iexact Ho
  iintro ⟨Ho, Hd3, Hr3⟩
  iapply (op_oload c rfl) $$ Hout
  iintro Hout
  iapply (op_amload c (k0_off13_eq c)) $$ Ha
  iintro Ha
  iapply (op_amstore c (k0_off13_eq c) (amF m ρ) (am_row m ρ c)) $$ Ha
  iintro Ha
  iapply (W_ret c _)
  iapply Hk
  isplitl [Ho]; · iexact Ho
  isplitl [Hd2]; · iexact Hd2
  isplitl [Hr2]; · iexact Hr2
  isplitl [Hd3]; · iexact Hd3
  isplitl [Hr3]; · iexact Hr3
  isplitl [Hout]; · iexact Hout
  iexact Ha

theorem part15 {v2 : BitVec 32} {Q : BitVec 32 → sProp (MT nD τ sig Unit (Elt F) ℕ UU ℕ)} :
    iprop(recs m ρ K ∗ ow c (debt c 3) ∗ (amIs m ρ c c (shr 1) ∗ asendRes (F := F) c 1) ∗ (amIs m ρ c c (shr 2) ∗ asendRes (F := F) c 2))
      ⊢ iprop((∀ v479, (ow c (debt c 1) ∗ due (F := F) c (asendQ 1) NA ∗ due (F := F) c (asendQ 2) NA) -∗ Q v479)
        -∗ W c (k0_part15 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2) Q) := by
  rw [k0_part15_eq_skeleton]; unfold k0_part15_skel
  simp only [Prog.lift, Prog.bind_op, Prog.bind_ret, Prog.pure_eq_ret]
  unfold amIs asendRes
  iintro ⟨#HR, Ho, ⟨Hm1, Hs1, Ht1, Hu1, Ha1⟩, ⟨Hm2, Hs2, Ht2, Hu2, Ha2⟩⟩ Hk
  iapply (op_asend m ρ c K 1 (by decide) (dev_eqs c).2.2.2.2.2.2.1 (k0_off14_eq c) (asend_sems 1 _) (arecv_sem c (k0_off3_eq c)) 2 (debt_succ c 2)) $$ [Hm1 Hs1 Ho Ht1 Hu1 Ha1]
  · isplitr; · iexact HR
    isplitl [Hm1]; · iexact Hm1
    isplitl [Hs1]; · iexact Hs1
    isplitl [Ho]; · iexact Ho
    isplitl [Ht1]; · iexact Ht1
    isplitl [Hu1]; · iexact Hu1
    iexact Ha1
  iintro ⟨Hd1, Ho⟩
  iapply (op_asend m ρ c K 2 (by decide) (dev_eqs c).2.2.2.2.2.2.2.1 (k0_off14_eq c) (asend_sems 2 _) (arecv_sem c (k0_off3_eq c)) 1 (debt_succ c 1)) $$ [Hm2 Hs2 Ho Ht2 Hu2 Ha2]
  · isplitr; · iexact HR
    isplitl [Hm2]; · iexact Hm2
    isplitl [Hs2]; · iexact Hs2
    isplitl [Ho]; · iexact Ho
    isplitl [Ht2]; · iexact Ht2
    isplitl [Hu2]; · iexact Hu2
    iexact Ha2
  iintro ⟨Hd2, Ho⟩
  iapply (W_ret c _)
  iapply Hk
  isplitl [Ho]; · iexact Ho
  isplitl [Hd1]; · iexact Hd1
  iexact Hd2

theorem part16 {v2 v479 : BitVec 32} {Q : BitVec 32 → sProp (MT nD τ sig Unit (Elt F) ℕ UU ℕ)} :
    iprop(recs m ρ K ∗ levAts L lv ∗ ow c (debt c 1) ∗ (amIs m ρ c c (shr 3) ∗ asendRes (F := F) c 3) ∗ due (F := F) c (arecvQ (c + 1)) NA)
      ⊢ iprop((∀ v514, (ow c (debt c 0) ∗ due (F := F) c (asendQ 3) NA ∗ done (F := F) c (arecvQ (c + 1)) ∗ amIs m ρ c (c + 1) fullShare) -∗ Q v514)
        -∗ W c (k0_part16 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v479) Q) := by
  rw [k0_part16_eq_skeleton]; unfold k0_part16_skel
  simp only [Prog.lift, Prog.bind_op, Prog.bind_ret, Prog.pure_eq_ret]
  unfold amIs asendRes
  iintro ⟨#HR, #Hl, Ho, ⟨Hm1, Hs1, Ht1, Hu1, Ha1⟩, Hd⟩ Hk
  iapply (op_asend m ρ c K 3 (by decide) (dev_eqs c).2.2.2.2.2.2.2.2 (k0_off14_eq c) (asend_sems 3 _) (arecv_sem c (k0_off3_eq c)) 0 (debt_succ c 0)) $$ [Hm1 Hs1 Ho Ht1 Hu1 Ha1]
  · isplitr; · iexact HR
    isplitl [Hm1]; · iexact Hm1
    isplitl [Hs1]; · iexact Hs1
    isplitl [Ho]; · iexact Ho
    isplitl [Ht1]; · iexact Ht1
    isplitl [Hu1]; · iexact Hu1
    iexact Ha1
  iintro ⟨Hd1, Ho⟩
  iapply (op_arecv m ρ c K (c + 1) (ne_add c 1 (by decide)) (off9_eq c 0)) $$ [Hd Ho]
  · isplitr; · iexact HR
    isplitr; · iexact Hl
    isplitl [Hd]; · iexact Hd
    iexact Ho
  iintro ⟨Ho, Hd, Hm⟩
  iapply (W_ret c _)
  iapply Hk
  isplitl [Ho]; · iexact Ho
  isplitl [Hd1]; · iexact Hd1
  isplitl [Hd]; · iexact Hd
  iexact Hm

theorem part17 {v2 v514 : BitVec 32} {Q : PUnit → sProp (MT nD τ sig Unit (Elt F) ℕ UU ℕ)} :
    iprop(recs m ρ K ∗ levAts L lv ∗ ow c (debt c 0) ∗ due (F := F) c (arecvQ (c + 2)) NA ∗ due (F := F) c (arecvQ (c + 3)) NA ∗ due (F := F) c (asendQ 1) NA ∗ due (F := F) c (asendQ 2) NA)
      ⊢ iprop(((ow c (debt c 0) ∗ (done (F := F) c (arecvQ (c + 2)) ∗ amIs m ρ c (c + 2) fullShare) ∗ (done (F := F) c (arecvQ (c + 3)) ∗ amIs m ρ c (c + 3) fullShare)
            ∗ (done (F := F) c (asendQ 1) ∗ amIs m ρ c c (shr 1)) ∗ (done (F := F) c (asendQ 2) ∗ amIs m ρ c c (shr 2))) -∗ Q ⟨⟩)
        -∗ W c (k0_part17 (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 c v2 v514) Q) := by
  rw [k0_part17_eq_skeleton]; unfold k0_part17_skel
  simp only [Prog.lift, Prog.bind_op, Prog.bind_ret, Prog.pure_eq_ret]
  unfold amIs
  iintro ⟨#HR, #Hl, Ho, Hr2, Hr3, Hs1, Hs2⟩ Hk
  iapply (op_arecv m ρ c K (c + 2) (ne_add c 2 (by decide)) (off9_eq c 1)) $$ [Hr2 Ho]
  · isplitr; · iexact HR
    isplitr; · iexact Hl
    isplitl [Hr2]; · iexact Hr2
    iexact Ho
  iintro ⟨Ho, Hr2⟩
  iapply (op_arecv m ρ c K (c + 3) (ne_add c 3 (by decide)) (off9_eq c 2)) $$ [Hr3 Ho]
  · isplitr; · iexact HR
    isplitr; · iexact Hl
    isplitl [Hr3]; · iexact Hr3
    iexact Ho
  iintro ⟨Ho, Hr3⟩
  iapply (op_asent m ρ c K 1 (by decide) (asend_sems 1 _)) $$ [Hs1 Ho]
  · isplitr; · iexact HR
    isplitr; · iexact Hl
    isplitl [Hs1]; · iexact Hs1
    iexact Ho
  iintro ⟨Ho, Hs1⟩
  iapply (op_asent m ρ c K 2 (by decide) (asend_sems 2 _)) $$ [Hs2 Ho]
  · isplitr; · iexact HR
    isplitr; · iexact Hl
    isplitl [Hs2]; · iexact Hs2
    iexact Ho
  iintro ⟨Ho, Hs2⟩
  iapply (W_ret c _)
  iapply Hk
  isplitl [Ho]; · iexact Ho
  isplitl [Hr2]; · iexact Hr2
  isplitl [Hr3]; · iexact Hr3
  isplitl [Hs1]; · iexact Hs1
  iexact Hs2

end Parts

end Cert.Proof.Run

end
-- ==== Proof.Body.lean ====
/-
# The kernel on one device

The parts one after the other, from what a device starts with to what it ends with.
-/
module

public import proofs.«01_k».proof.Proof.Parts2

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

theorem W_bind {α β : Type} {Q : β → sProp (MT nD τ sig Unit (Elt F) ℕ UU ℕ)} (c : Dev nD) (p : Prog (TpuEff nD τ sig (Elt F) Λ₀ .tc) α)
    (k : α → Prog (TpuEff nD τ sig (Elt F) Λ₀ .tc) β) : W (F := F) c p (fun a => W c (k a) Q) ⊢ W c (p >>= k) Q := by
  unfold W
  rw [wp_bind]

/-! ## The table of maxima in rows -/

theorem am_disj : ∀ b b' : Fin 4, b ≠ b' → Disjoint (amR b).set (amR b').set := fun b b' h => by
  rw [Finset.disjoint_left]
  intro x hx hx'
  have h1 := Rect.mem_set_unit.mp hx 0
  have h2 := Rect.mem_set_unit.mp hx' 0
  change b.val ≤ (x 0).val ∧ (x 0).val < b.val + 1 at h1
  change b'.val ≤ (x 0).val ∧ (x 0).val < b'.val + 1 at h2
  exact h (Fin.ext (by omega))

theorem am_cover : (Finset.univ : Finset (Fin 4)).biUnion (fun b => (amR b).set) = Finset.univ := by
  ext x
  simp only [Finset.mem_biUnion, Finset.mem_univ, true_and, iff_true]
  refine ⟨x 0, Rect.mem_set_unit.mpr fun a => ?_⟩
  match a with
  | ⟨0, _⟩ => show (x 0).val ≤ (x 0).val ∧ (x 0).val < (x 0).val + 1; omega
  | ⟨1, _⟩ => show 0 ≤ (x 1).val ∧ (x 1).val < 0 + 128; have := (x 1).isLt; change (x 1).val < 128 at this; omega

theorem fin4_sep (c : Dev nD) (Φ : Fin 4 → sProp 𝕄) : bigSep Finset.univ Φ = iprop(Φ c ∗ Φ (c + 1) ∗ Φ (c + 2) ∗ Φ (c + 3)) :=
  bigSep_univ_eq_bigSepL [c, c + 1, c + 2, c + 3] (by revert c; decide) (by revert c; decide) Φ

theorem am_rows (c : Dev nD) (f : Buf (Elt F) ((c : Thread nD τ).loc cc0_scratch3)) :
    (pc c cc0_scratch3 Finset.univ fullShare f : sProp 𝕄)
      = iprop(pc c cc0_scratch3 (amR c).set fullShare f ∗ pc c cc0_scratch3 (amR (c + 1)).set fullShare f ∗ pc c cc0_scratch3 (amR (c + 2)).set fullShare f ∗ pc c cc0_scratch3 (amR (c + 3)).set fullShare f) :=
  (Ring.pointsTo_blocks (ℓ := (c : Thread nD τ).loc cc0_scratch3) (fun b : Fin 4 => (amR b).set) am_disj am_cover f).trans (fin4_sep c _)

theorem am_shares (c : Dev nD) : amIs m ρ c c fullShare ⊣⊢ iprop(amIs m ρ c c (shr 1) ∗ amIs m ρ c c (shr 2) ∗ amIs m ρ c c (shr 3)) := by
  have h1 := pointsTo_share (nD := nD) (τ := τ) (sig := sig) (Ix := Unit) (Val := Elt F) (Name := ℕ) (U := UU) (Lvl := ℕ)
    (ℓ := (c : Thread nD τ).loc cc0_scratch3) (I := (amR c).set) (f := amF m ρ) (PosShare.mem_left_op_right fullShare)
  have h2 := pointsTo_share (nD := nD) (τ := τ) (sig := sig) (Ix := Unit) (Val := Elt F) (Name := ℕ) (U := UU) (Lvl := ℕ)
    (ℓ := (c : Thread nD τ).loc cc0_scratch3) (I := (amR c).set) (f := amF m ρ) (PosShare.mem_left_op_right (fullShare : PosShare TreeShare).right)
  constructor
  · exact h1.1.trans (sep_mono_right h2.1)
  · exact (sep_mono_right h2.2).trans h1.2

/-! ## The device's run -/

/-- For the handshake: the tokens of the signals, what they lend, and the own barrier's wait. -/
def barPre (c : Dev nD) : sProp 𝕄 :=
  iprop((dutyTok ER (barC (c + 1)) 0 1 ∗ lent (F := F) c (c + 1)) ∗ (dutyTok ER (barC (c + 2)) 0 2 ∗ lent (F := F) c (c + 2))
    ∗ (dutyTok ER (barC (c + 3)) 0 3 ∗ lent (F := F) c (c + 3)) ∗ cred (tallyAt (barC c) () 3) ∗ atPos ER (barC c) 0 ∅ 0)
def sendPre (c : Dev nD) (d : Fin 4) : sProp 𝕄 :=
  iprop(dutyTok ER (dC c (sendQ d)) 0 0 ∗ dutyTok ER (dC (c + d) (recvQ c)) 0 0 ∗ atPos ER (dC c (sendQ d)) 0 ∅ 0)
def asendPre (c : Dev nD) (d : Fin 4) : sProp 𝕄 :=
  iprop(dutyTok ER (dC c (asendQ d)) 0 0 ∗ dutyTok ER (dC (c + d) (arecvQ c)) 0 0 ∗ atPos ER (dC c (asendQ d)) 0 ∅ 0)
/-- For round `r` of half `b`: the rows of block `k`, and its token. -/
def wTok (c : Dev nD) (k : Fin 4) (b : Fin 2) (r : ℕ) : sProp 𝕄 := iprop(wChunk m c k b ∗ dutyTok ER (dC c (wQ b)) r 0)

def devPre (c : Dev nD) : sProp 𝕄 :=
  iprop(barPre (F := F) c ∗ ow c (debt c 9) ∗ xIs m ρ c ∗ (∃ f, oIs (F := F) c f)
    ∗ (rowAny (F := F) c c ∗ rowAny (F := F) c (c + 1) ∗ rowAny (F := F) c (c + 2) ∗ rowAny (F := F) c (c + 3))
    ∗ (wRdy (F := F) c 0 0 ∗ wRdy (F := F) c 1 0)
    ∗ ((wTok m c c 0 0 ∗ wTok m c c 1 0) ∗ (wTok m c (c + 3) 0 1 ∗ wTok m c (c + 3) 1 1) ∗ (wTok m c (c + 2) 0 2 ∗ wTok m c (c + 2) 1 2) ∗ (wTok m c (c + 1) 0 3 ∗ wTok m c (c + 1) 1 3))
    ∗ (sendPre (F := F) c 1 ∗ sendPre (F := F) c 2 ∗ sendPre (F := F) c 3) ∗ (asendPre (F := F) c 1 ∗ asendPre (F := F) c 2 ∗ asendPre (F := F) c 3)
    ∗ (due (F := F) c (recvQ (c + 1)) NX ∗ due (F := F) c (recvQ (c + 2)) NX ∗ due (F := F) c (recvQ (c + 3)) NX)
    ∗ (due (F := F) c (arecvQ (c + 1)) NA ∗ due (F := F) c (arecvQ (c + 2)) NA ∗ due (F := F) c (arecvQ (c + 3)) NA)
    ∗ aspot (F := F) c c)

def devPost (c : Dev nD) : sProp 𝕄 :=
  iprop(ow c (debt c 0) ∗ atPos ER (barC c) 1 ∅ 0 ∗ xIs m ρ c ∗ oIs c (outF m ρ c)
    ∗ (rowIs m ρ c c ∗ rowIs m ρ c (c + 1) ∗ rowIs m ρ c (c + 2) ∗ rowIs m ρ c (c + 3))
    ∗ (slotIs m ρ c (c + 1) ∗ slotIs m ρ c (c + 2) ∗ slotIs m ρ c (c + 3))
    ∗ (wHave m c (c + 1) 0 3 ∗ wHave m c (c + 1) 1 3)
    ∗ ((wChunk m c c 0 ∗ wChunk m c c 1) ∗ (wChunk m c (c + 1) 0 ∗ wChunk m c (c + 1) 1) ∗ (wChunk m c (c + 2) 0 ∗ wChunk m c (c + 2) 1) ∗ (wChunk m c (c + 3) 0 ∗ wChunk m c (c + 3) 1))
    ∗ (done (F := F) c (sendQ 1) ∗ done (F := F) c (sendQ 2) ∗ done (F := F) c (sendQ 3))
    ∗ (done (F := F) c (recvQ (c + 1)) ∗ done (F := F) c (recvQ (c + 2)) ∗ done (F := F) c (recvQ (c + 3)))
    ∗ (done (F := F) c (asendQ 1) ∗ done (F := F) c (asendQ 2) ∗ done (F := F) c (asendQ 3))
    ∗ (done (F := F) c (arecvQ (c + 1)) ∗ done (F := F) c (arecvQ (c + 2)) ∗ done (F := F) c (arecvQ (c + 3)))
    ∗ pc c cc0_scratch3 Finset.univ fullShare (amF m ρ))

section Run
variable {c : Dev nD} (K : Dev nD × Fin 19 → ℕ)

theorem dev_run {Q : PUnit → sProp (MT nD τ sig Unit (Elt F) ℕ UU ℕ)} :
    iprop(recs m ρ K ∗ levAts L lv ∗ devPre m ρ c) ⊢ iprop((devPost m ρ c -∗ Q ⟨⟩) -∗ W c (cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) Q) := by
  rw [cc0_body_eq_skeleton]; unfold cc0_body_skel devPre barPre
  iintro ⟨#HR, #Hl, ⟨⟨Hb1, Hl1⟩, ⟨Hb2, Hl2⟩, ⟨Hb3, Hl3⟩, Hcb, Hab⟩, Ho, Hx, ⟨%f, Hout⟩, ⟨Hr0, Hr1, Hr2, Hr3⟩, ⟨Hy0, Hy1⟩,
    ⟨⟨Hw00, Hw01⟩, ⟨Hw30, Hw31⟩, ⟨Hw20, Hw21⟩, ⟨Hw10, Hw11⟩⟩, ⟨Hs1, Hs2, Hs3⟩, ⟨Ha1, Ha2, Ha3⟩, ⟨Hv1, Hv2, Hv3⟩, ⟨Hu1, Hu2, Hu3⟩, Hown⟩ Hk
  iapply (W_bind c)
  iapply (part1 m ρ K) $$ [Ho Hb1 Hl1 Hb2 Hl2]
  · isplitr; · iexact HR
    isplitl [Ho]; · iexact Ho
    isplitl [Hb1]; · iexact Hb1
    isplitl [Hl1]; · iexact Hl1
    isplitl [Hb2]; · iexact Hb2
    iexact Hl2
  iintro %v2 %v30 %c4 %v31 Ho
  try dsimp only
  iapply (W_bind c)
  iapply (part2 m ρ K) $$ [Ho Hb3 Hl3 Hcb Hab]
  · isplitr; · iexact HR
    isplitr; · iexact Hl
    isplitl [Ho]; · iexact Ho
    isplitl [Hb3]; · iexact Hb3
    isplitl [Hl3]; · iexact Hl3
    isplitl [Hcb]; · iexact Hcb
    iexact Hab
  iintro %v53 %v64 %v65 ⟨Ho, Hab, Hn1, Hn2, Hn3⟩
  ihave Hn1 := (lent_split (F := F) (c + 1) c) $$ Hn1
  icases Hn1 with ⟨Hp1, Hq1⟩
  ihave Hn2 := (lent_split (F := F) (c + 2) c) $$ Hn2
  icases Hn2 with ⟨Hp2, Hq2⟩
  ihave Hn3 := (lent_split (F := F) (c + 3) c) $$ Hn3
  icases Hn3 with ⟨Hp3, Hq3⟩
  try dsimp only
  iapply (W_bind c)
  iapply (part3 (F := F))
  iintro %v75 %v86 %v88 %v90 %v92 %v94 %v96 %v98 %v99
  try dsimp only
  iapply (W_bind c)
  unfold wTok
  icases Hw00 with ⟨Hw00, Ht00⟩
  icases Hw01 with ⟨Hw01, Ht01⟩
  iapply (part4 m ρ K) $$ [Hx Hw00 Ht00 Hw01 Ht01 Hy0 Hy1]
  · isplitr; · iexact HR
    isplitl [Hw00 Ht00 Hy0]
    · isplitl [Hw00]; · iexact Hw00
      isplitl [Hy0]; · iexact Hy0
      iexact Ht00
    isplitl [Hw01 Ht01 Hy1]
    · isplitl [Hw01]; · iexact Hw01
      isplitl [Hy1]; · iexact Hy1
      iexact Ht01
    iexact Hx
  iintro %v100 %v102 %v125 ⟨Hf0, Hf1, Hx⟩
  try dsimp only
  iapply (W_bind c)
  iapply (part5 m ρ K) $$ [Hr1 Hs1 Hp1 Ho Hx Hr2]
  · isplitr; · iexact HR
    isplitl [Hr1]; · iexact Hr1
    isplitl [Hs1 Hp1]
    · unfold sendRes sendPre
      isplitl [Hp1]; · iexact Hp1
      iexact Hs1
    isplitl [Ho]; · iexact Ho
    isplitl [Hx]; · iexact Hx
    iexact Hr2
  iintro %v156 %v157 ⟨Hs1, Ho, Hx, Hr2⟩
  try dsimp only
  iapply (W_bind c)
  iapply (part6 m ρ K) $$ [Hr2 Hs2 Hp2 Ho Hx Hr3]
  · isplitr; · iexact HR
    isplitl [Hr2]; · iexact Hr2
    isplitl [Hs2 Hp2]
    · unfold sendRes sendPre
      isplitl [Hp2]; · iexact Hp2
      iexact Hs2
    isplitl [Ho]; · iexact Ho
    isplitl [Hx]; · iexact Hx
    iexact Hr3
  iintro ⟨Hs2, Ho, Hx, Hr3⟩
  try dsimp only
  iapply (W_bind c)
  iapply (part7 m ρ K) $$ [Hr3 Hs3 Hp3 Ho Hx Hr0 Hf0 Hout]
  · isplitr; · iexact HR
    isplitr; · iexact Hl
    isplitl [Hr3]; · iexact Hr3
    isplitl [Hs3 Hp3]
    · unfold sendRes sendPre
      isplitl [Hp3]; · iexact Hp3
      iexact Hs3
    isplitl [Ho]; · iexact Ho
    isplitl [Hx]; · iexact Hx
    isplitl [Hr0]; · iexact Hr0
    isplitl [Hf0]; · iexact Hf0
    iexact Hout
  iintro ⟨Hs3, Ho, Hx, Hr0, Hh0, Hw00, Hout⟩
  try dsimp only
  iapply (W_bind c)
  icases Hw30 with ⟨Hw30, Ht30⟩
  iapply (part8 m ρ K) $$ [Ho Hh0 Hw30 Ht30 Hf1 Hr0 Hout Hw31]
  · isplitr; · iexact HR
    isplitr; · iexact Hl
    isplitl [Ho]; · iexact Ho
    isplitl [Hh0 Hw30 Ht30]
    · isplitl [Hh0]; · iexact Hh0
      isplitl [Hw30]; · iexact Hw30
      iexact Ht30
    isplitl [Hf1]; · iexact Hf1
    isplitl [Hr0]; · iexact Hr0
    isplitl [Hout]; · iexact Hout
    iexact Hw31
  iintro ⟨Ho, Hf0, Hw01, Hr0, Hout, Hf1⟩
  try dsimp only
  iapply (W_bind c)
  iapply (part9 m ρ K) $$ [Ho Hv3 Hf0 Hout Hw20 Hf1]
  · isplitr; · iexact HR
    isplitr; · iexact Hl
    isplitl [Ho]; · iexact Ho
    isplitl [Hv3]; · iexact Hv3
    isplitl [Hf0]; · iexact Hf0
    isplitl [Hout]; · iexact Hout
    isplitl [Hw20]; · iexact Hw20
    iexact Hf1
  iintro ⟨Ho, Hv3, Hg3, Hw30, Hout, Hf0, Hh1, Hw31⟩
  try dsimp only
  iapply (W_bind c)
  iapply (part10 m ρ K) $$ [Ho Hg3 Hh1 Hout Hw21 Hv2]
  · isplitr; · iexact HR
    isplitr; · iexact Hl
    isplitl [Ho]; · iexact Ho
    isplitl [Hg3]; · iexact Hg3
    isplitl [Hh1]; · iexact Hh1
    isplitl [Hout]; · iexact Hout
    isplitl [Hw21]; · iexact Hw21
    iexact Hv2
  iintro ⟨Ho, Hg3, Hout, Hf1, Hv2, Hg2⟩
  try dsimp only
  iapply (W_bind c)
  iapply (part11 m ρ K) $$ [Ho Hf0 Hg2 Hout Hw10 Hf1]
  · isplitr; · iexact HR
    isplitr; · iexact Hl
    isplitl [Ho]; · iexact Ho
    isplitl [Hf0]; · iexact Hf0
    isplitl [Hg2]; · iexact Hg2
    isplitl [Hout]; · iexact Hout
    isplitl [Hw10]; · iexact Hw10
    iexact Hf1
  iintro ⟨Ho, Hw20, Hg2, Hout, Hf0, Hh1, Hw21⟩
  try dsimp only
  iapply (W_bind c)
  iapply (part12 m ρ K) $$ [Ho Hout Hh1 Hw11 Hv1 Hf0]
  · isplitr; · iexact HR
    isplitr; · iexact Hl
    isplitl [Ho]; · iexact Ho
    isplitl [Hout]; · iexact Hout
    isplitl [Hh1]; · iexact Hh1
    isplitl [Hw11]; · iexact Hw11
    isplitl [Hv1]; · iexact Hv1
    iexact Hf0
  iintro ⟨Ho, Hout, Hf1, Hv1, Hg1, Hh0, Hw10⟩
  try dsimp only
  iapply (W_bind c)
  iapply (part13 m ρ K) $$ [Ho Hout Hf1 Hg1 Hs1]
  · isplitr; · iexact HR
    isplitr; · iexact Hl
    isplitl [Ho]; · iexact Ho
    isplitl [Hout]; · iexact Hout
    isplitl [Hf1]; · iexact Hf1
    isplitl [Hg1]; · iexact Hg1
    iexact Hs1
  iintro ⟨Ho, Hout, Hh1, Hw11, Hg1, Hs1, Hr1⟩
  try dsimp only
  iapply (W_bind c)
  iapply (part14 m ρ K) $$ [Ho Hs2 Hs3 Hout Hown]
  · isplitr; · iexact HR
    isplitr; · iexact Hl
    isplitl [Ho]; · iexact Ho
    isplitl [Hs2]; · iexact Hs2
    isplitl [Hs3]; · iexact Hs3
    isplitl [Hout]; · iexact Hout
    iexact Hown
  iintro ⟨Ho, Hs2, Hr2, Hs3, Hr3, Hout, Hm⟩
  ihave Hm := (am_shares m ρ c).1 $$ Hm
  icases Hm with ⟨Hm1, Hm2, Hm3⟩
  try dsimp only
  iapply (W_bind c)
  iapply (part15 m ρ K) $$ [Ho Hm1 Ha1 Hq1 Hm2 Ha2 Hq2]
  · isplitr; · iexact HR
    isplitl [Ho]; · iexact Ho
    isplitl [Hm1 Ha1 Hq1]
    · isplitl [Hm1]; · iexact Hm1
      unfold asendRes asendPre
      isplitl [Hq1]; · iexact Hq1
      iexact Ha1
    · isplitl [Hm2]; · iexact Hm2
      unfold asendRes asendPre
      isplitl [Hq2]; · iexact Hq2
      iexact Ha2
  iintro %v479 ⟨Ho, Ha1, Ha2⟩
  try dsimp only
  iapply (W_bind c)
  iapply (part16 m ρ K) $$ [Ho Hm3 Ha3 Hq3 Hu1]
  · isplitr; · iexact HR
    isplitr; · iexact Hl
    isplitl [Ho]; · iexact Ho
    isplitl [Hm3 Ha3 Hq3]
    · isplitl [Hm3]; · iexact Hm3
      unfold asendRes asendPre
      isplitl [Hq3]; · iexact Hq3
      iexact Ha3
    iexact Hu1
  iintro %v514 ⟨Ho, Ha3, Hu1, Hm1⟩
  try dsimp only
  iapply (W_bind c)
  iapply (part17 m ρ K) $$ [Ho Hu2 Hu3 Ha1 Ha2]
  · isplitr; · iexact HR
    isplitr; · iexact Hl
    isplitl [Ho]; · iexact Ho
    isplitl [Hu2]; · iexact Hu2
    isplitl [Hu3]; · iexact Hu3
    isplitl [Ha1]; · iexact Ha1
    iexact Ha2
  iintro ⟨Ho, ⟨Hu2, Hm2⟩, ⟨Hu3, Hm3⟩, ⟨Ha1, Hq1⟩, ⟨Ha2, Hq2⟩⟩
  simp only [Prog.lift, Prog.bind_op, Prog.bind_ret, Prog.pure_eq_ret]
  iapply (op_asent m ρ c K 3 (by decide) (asend_sems 3 _)) $$ [Ha3 Ho]
  · isplitr; · iexact HR
    isplitr; · iexact Hl
    isplitl [Ha3]; · iexact Ha3
    iexact Ho
  iintro ⟨Ho, Ha3, Hq3⟩
  ihave Hm0 := (am_shares m ρ c).2 $$ [Hq1 Hq2 Hq3]
  · isplitl [Hq1]; · iexact Hq1
    isplitl [Hq2]; · iexact Hq2
    unfold amIs; iexact Hq3
  ihave Hm := (Entails.of_eq (am_rows c (amF m ρ)).symm) $$ [Hm0 Hm1 Hm2 Hm3]
  · unfold amIs
    isplitl [Hm0]; · iexact Hm0
    isplitl [Hm1]; · iexact Hm1
    isplitl [Hm2]; · iexact Hm2
    iexact Hm3
  unfold oIs
  iapply (op_amall c (amF m ρ) rfl) $$ Hm
  iintro Hm
  iapply (op_oload c rfl) $$ Hout
  iintro Hout
  iapply (op_oload c rfl) $$ Hout
  iintro Hout
  iapply (op_ostore c (outF m ρ c) rfl rfl) $$ Hout
  iintro Hout
  iapply (W_ret c _)
  iapply Hk
  unfold devPost oIs
  isplitl [Ho]; · iexact Ho
  isplitl [Hab]; · iexact Hab
  isplitl [Hx]; · iexact Hx
  isplitl [Hout]; · iexact Hout
  isplitl [Hr0 Hr1 Hr2 Hr3]
  · isplitl [Hr0]; · iexact Hr0
    isplitl [Hr1]; · iexact Hr1
    isplitl [Hr2]; · iexact Hr2
    iexact Hr3
  isplitl [Hg1 Hg2 Hg3]
  · isplitl [Hg1]; · iexact Hg1
    isplitl [Hg2]; · iexact Hg2
    iexact Hg3
  isplitl [Hh0 Hh1]
  · isplitl [Hh0]; · iexact Hh0
    iexact Hh1
  isplitl [Hw00 Hw01 Hw10 Hw11 Hw20 Hw21 Hw30 Hw31]
  · isplitl [Hw00 Hw01]
    · isplitl [Hw00]; · iexact Hw00
      iexact Hw01
    isplitl [Hw10 Hw11]
    · isplitl [Hw10]; · iexact Hw10
      iexact Hw11
    isplitl [Hw20 Hw21]
    · isplitl [Hw20]; · iexact Hw20
      iexact Hw21
    · isplitl [Hw30]; · iexact Hw30
      iexact Hw31
  isplitl [Hs1 Hs2 Hs3]
  · isplitl [Hs1]; · iexact Hs1
    isplitl [Hs2]; · iexact Hs2
    iexact Hs3
  isplitl [Hv1 Hv2 Hv3]
  · isplitl [Hv1]; · iexact Hv1
    isplitl [Hv2]; · iexact Hv2
    iexact Hv3
  isplitl [Ha1 Ha2 Ha3]
  · isplitl [Ha1]; · iexact Ha1
    isplitl [Ha2]; · iexact Ha2
    iexact Ha3
  isplitl [Hu1 Hu2 Hu3]
  · isplitl [Hu1]; · iexact Hu1
    isplitl [Hu2]; · iexact Hu2
    iexact Hu3
  iexact Hm

end Run

end Cert.Proof.Run

end
-- ==== Proof.Ghost.lean ====
/-
# The launch's resources: cells, tokens and credit

Every device's cells are opened at once: each gets its invariant, the tokens of the duties go to the devices that
pay them, and what the devices owe at the start is each device's own credit.
-/
module

public import proofs.«01_k».proof.Proof.Body

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The semaphores and the tokens -/

/-- The kernel's own semaphores. -/
abbrev osem (j : Fin 18) : SemLoc sig := .dma (⟨j.val + 2, by omega⟩ : Fin 20)

theorem ownSemFacts : Pipeline.OwnSemFacts cfg0.spec osem := by decide

/-- The cells. -/
def kcells : Finset (GSem nD τ sig) := Finset.univ.map ⟨kcell, kcell_injective⟩

/-- A device's tokens as minted. -/
def tk (x : Fin 7 × Fin 4) : SemLoc sig × ℕ × Fin 4 :=
  if x.1 = 0 then (.reg barS, 0, x.2) else if x.1 = 1 then (.dma (sendQ x.2), 0, 0) else if x.1 = 2 then (.dma (recvQ x.2), 0, 0)
  else if x.1 = 3 then (.dma (asendQ x.2), 0, 0) else if x.1 = 4 then (.dma (arecvQ x.2), 0, 0)
  else if x.1 = 5 then (.dma (wQ 0), x.2.val, 0) else (.dma (wQ 1), x.2.val, 0)
theorem tk_injective : Function.Injective tk := by decide +kernel
abbrev tokOf (cx : Dev nD × Fin 7 × Fin 4) : GSem nD τ sig × ℕ × Fin 4 := (((cx.1 : Thread nD τ), (tk cx.2).1), (tk cx.2).2)
theorem tokOf_injective : Function.Injective tokOf := by
  rintro ⟨c, x⟩ ⟨c', x'⟩ h
  have h1 : c = c' := congrArg (fun g : GSem nD τ sig × ℕ × Fin 4 => g.1.1.1) h
  have h2 : x = x' := tk_injective (congrArg (fun g : GSem nD τ sig × ℕ × Fin 4 => (g.1.2, g.2)) h)
  rw [h1, h2]
def ktoks : Finset (GSem nD τ sig × ℕ × Fin 4) := Finset.univ.map ⟨tokOf, tokOf_injective⟩

def u₀ : UU := (initOf (Pipeline.cells cfgs cellOf_inj) (Pipeline.launchToks cfgs cellOf_inj), initOf kcells ktoks)

/-- The tokens of device `c`'s own cells. -/
def toks (c : Dev nD) : sProp 𝕄 :=
  iprop((bigSep Finset.univ fun d : Fin 4 => dutyTok ER (barC c) 0 d)
    ∗ (bigSep Finset.univ fun d : Fin 4 => dutyTok ER (dC c (sendQ d)) 0 0)
    ∗ (bigSep Finset.univ fun d : Fin 4 => dutyTok ER (dC c (recvQ d)) 0 0)
    ∗ (bigSep Finset.univ fun d : Fin 4 => dutyTok ER (dC c (asendQ d)) 0 0)
    ∗ (bigSep Finset.univ fun d : Fin 4 => dutyTok ER (dC c (arecvQ d)) 0 0)
    ∗ (bigSep Finset.univ fun d : Fin 4 => dutyTok ER (dC c (wQ 0)) d.val 0)
    ∗ (bigSep Finset.univ fun d : Fin 4 => dutyTok ER (dC c (wQ 1)) d.val 0))

/-- The tokens of the duties device `c` pays. -/
def payToks (c : Dev nD) : sProp 𝕄 :=
  iprop((bigSep Finset.univ fun d : Fin 4 => dutyTok ER (barC (c + d)) 0 d)
    ∗ (bigSep Finset.univ fun d : Fin 4 => dutyTok ER (dC c (sendQ d)) 0 0)
    ∗ (bigSep Finset.univ fun d : Fin 4 => dutyTok ER (dC (c + d) (recvQ c)) 0 0)
    ∗ (bigSep Finset.univ fun d : Fin 4 => dutyTok ER (dC c (asendQ d)) 0 0)
    ∗ (bigSep Finset.univ fun d : Fin 4 => dutyTok ER (dC (c + d) (arecvQ c)) 0 0)
    ∗ (bigSep Finset.univ fun d : Fin 4 => dutyTok ER (dC c (wQ 0)) d.val 0)
    ∗ (bigSep Finset.univ fun d : Fin 4 => dutyTok ER (dC c (wQ 1)) d.val 0))

theorem toks_eq (c : Dev nD) : (bigSep Finset.univ fun x : Fin 7 × Fin 4 => dutyTok ER ((c : Thread nD τ), (tk x).1) (tk x).2.1 (tk x).2.2 : sProp 𝕄) = toks c := by
  rw [bigSep_univ_prod, bigSep_univ_eq_bigSepL [0, 1, 2, 3, 4, 5, 6] (by decide) (by decide)]; rfl

/-- The positions of device `c`'s cells, none taken. -/
def poss (c : Dev nD) : sProp 𝕄 := bigSep Finset.univ fun k : Fin 19 => atPos ER (kcell (c, k)) 0 ∅ 0

/-- What the launch element deals device `c`. -/
def G (c : Dev nD) : sProp 𝕄 :=
  iprop((bigSep Finset.univ fun k : Fin 19 => roundState ER (Rd m ρ) (kcell (c, k)) 0)
    ∗ poss c ∗ (bigSep Finset.univ fun k : Fin 19 => reached ER (kcell (c, k)) 0) ∗ toks c)

/-- What the opening of the cells makes of it. -/
def G' (c : Dev nD) : sProp 𝕄 := iprop(∃ K, recs m ρ K ∗ poss c ∗ payToks c)

theorem fund_all : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun k : Fin 19 => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => toks c := by
    unfold ktoks; rw [bigSep_map, bigSep_univ_prod]
    exact bigSep_congr fun c _ => toks_eq c
  iintro HX
  imod (Rounds.fund ER (Rd m ρ) kcells ktoks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat']; · iexact Hat'
  isplitl [Hr']; · iexact Hr'
  iexact Htok'

theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 19 => semVal (kcell (c, k)) 0 : sProp 𝕄) := by
  have h1 : (unscopedSems0 c : sProp 𝕄) = semVal (barC c) 0 := by
    unfold unscopedSems0; rw [bigSep_eq_bigSepL_of_eq [SemLoc.reg barS] (by decide) (by decide)]; rfl
  rw [h1, Pipeline.ownSems0_eq_of_list c osem [0, 1, 2, 3, 4, 5, 6, 7, 8, 9, 10, 11, 12, 13, 14, 15, 16, 17] (by decide) (by decide),
    bigSep_univ_eq_bigSepL [0, 1, 2, 3, 4, 5, 6, 7, 8, 9, 10, 11, 12, 13, 14, 15, 16, 17, 18] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ poss c ∗ (bigSep Finset.univ fun k : Fin 19 => reached ER (kcell (c, k)) 0) ∗ toks c) := by
  unfold G
  iintro ⟨Hos, Hus, Hst, Hat, Hr, Htok⟩
  ihave Hv := (Entails.of_eq (sems0_eq (F := F) c)) $$ [Hos Hus]
  · isplitl [Hus] <;> iassumption
  imod (show iprop((bigSep Finset.univ fun k : Fin 19 => semVal (kcell (c, k)) 0) ∗ bigSep Finset.univ fun k : Fin 19 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- A family over two devices, the second counted from the first. -/
theorem from_other (Φ : Fin 4 → Fin 4 → sProp 𝕄) :
    (bigSep Finset.univ fun c : Fin 4 => bigSep Finset.univ fun k : Fin 4 => Φ c k) = bigSep Finset.univ fun c : Fin 4 => bigSep Finset.univ fun d : Fin 4 => Φ (c + d) c := by
  rw [bigSep_univ_comm]
  exact bigSep_congr fun c _ => bigSep_univ_equiv (Equiv.addLeft c) fun a => Φ a c
theorem from_shift (Φ : Fin 4 → Fin 4 → sProp 𝕄) :
    (bigSep Finset.univ fun c : Fin 4 => bigSep Finset.univ fun d : Fin 4 => Φ c d) = bigSep Finset.univ fun c : Fin 4 => bigSep Finset.univ fun d : Fin 4 => Φ (c + d) d := by
  rw [bigSep_univ_comm, bigSep_univ_comm (fun c d => Φ (c + d) d)]
  exact bigSep_congr fun d _ => bigSep_univ_equiv (Equiv.addRight d) fun a => Φ a d

/-- The tokens dealt to the payers. -/
theorem toks_dealt : (bigSep Finset.univ fun c : Dev nD => (toks c : sProp 𝕄)) = bigSep Finset.univ fun c : Dev nD => payToks c := by
  unfold toks payToks
  simp only [bigSep_sep']
  rw [from_shift (F := F) (fun c d => dutyTok ER (barC c) 0 d), from_other (F := F) (fun c k => dutyTok ER (dC c (recvQ k)) 0 0),
    from_other (F := F) (fun c k => dutyTok ER (dC c (arecvQ k)) 0 0)]

theorem regroup :
    (bigSep Finset.univ fun c : Dev nD => iprop((bigSep Finset.univ fun k => iprop(∃ κ : ℕ, cellInv ER (Rd m ρ) κ (kcell (c, k))))
          ∗ poss c ∗ (bigSep Finset.univ fun k : Fin 19 => reached ER (kcell (c, k)) 0) ∗ toks c) : sProp 𝕄)
      ⊢ bigSep Finset.univ (G' m ρ) := by
  rw [bigSep_sep', bigSep_sep', bigSep_sep', ← bigSep_univ_prod (fun ck : Dev nD × Fin 19 => iprop(∃ κ : ℕ, cellInv ER (Rd m ρ) κ (kcell ck))),
    ← bigSep_univ_prod (fun ck : Dev nD × Fin 19 => (reached ER (kcell ck) 0 : sProp 𝕄)), toks_dealt]
  iintro ⟨HI, Hat, #HR, Htok⟩
  ihave HK := (BI.bigSep_exists_pi Finset.univ (fun (ck : Dev nD × Fin 19) (κ : ℕ) => (cellInv ER (Rd m ρ) κ (kcell ck) : sProp 𝕄))) $$ HI
  icases HK with ⟨%K, #HI⟩
  iapply (bigSep_with_persistent (R := recs m ρ K) (Φ := fun c : Dev nD => iprop(poss (F := F) c ∗ payToks c)) fun c _ => by
    unfold G'
    iintro ⟨HR, Hat, Htok⟩
    iexists K
    isplitl [HR]; · iexact HR
    isplitl [Hat]; · iexact Hat
    iexact Htok)
  isplitr
  · unfold recs; isplitl; · iexact HI
    iexact HR
  · rw [bigSep_sep']
    isplitl [Hat]; · iexact Hat
    iexact Htok

/-- Every device's semaphores opened at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

/-- What device `c` is owed. -/
def claim (c : Dev nD) : CellTallies nD τ sig Unit :=
  (tallyAt (barC c) () 1 + (tallyAt (barC c) () 1 + tallyAt (barC c) () 1))
    + ((tallyAt (dC c (recvQ (c + 1))) () NX + (tallyAt (dC c (recvQ (c + 2))) () NX + tallyAt (dC c (recvQ (c + 3))) () NX))
      + (tallyAt (dC c (arecvQ (c + 1))) () NA + (tallyAt (dC c (arecvQ (c + 2))) () NA + tallyAt (dC c (arecvQ (c + 3))) () NA)))

theorem claim_on (c : Dev nD) (g : GSem nD τ sig) (h : claim c g ≠ 0) : g.1 = (c : Thread nD τ) := by
  by_contra hg
  refine h ?_
  have hz (sm : SemLoc sig) (n : ℕ) : (tallyAt ((c : Thread nD τ), sm) () n : CellTallies nD τ sig Unit) g = 0 :=
    Finsupp.ext fun u => by rw [tallyAt_apply, if_neg fun hh => hg (by rw [hh.1])]; rfl
  unfold claim
  simp only [Pi.add_apply, hz, add_zero]

theorem sum_bar (e : Fin 4) : (∑ d : Dev nD, (tallyAt (barC (d + e)) () 1 : CellTallies nD τ sig Unit)) = ∑ d : Dev nD, tallyAt (barC d) () 1 :=
  Equiv.sum_comp (Equiv.addRight e) fun d : Fin 4 => (tallyAt (barC d) () 1 : CellTallies nD τ sig Unit)
theorem sum_dma (q : Fin 4 → DmaSem sig) (N : ℕ) (e e' : Fin 4) (h : e + e' = 0) :
    (∑ d : Dev nD, (tallyAt (dC (d + e) (q d)) () N : CellTallies nD τ sig Unit)) = ∑ d : Dev nD, tallyAt (dC d (q (d + e'))) () N := by
  rw [← Equiv.sum_comp (Equiv.addRight e) fun d : Fin 4 => (tallyAt (dC d (q (d + e'))) () N : CellTallies nD τ sig Unit)]
  refine Finset.sum_congr rfl fun d _ => ?_
  show _ = tallyAt (dC (d + e) (q (d + e + e'))) () N
  rw [add_assoc, h, add_zero]

theorem claims_sum : (∑ d : Dev nD, debt d 9) = ∑ d : Dev nD, claim d := by
  have h (d : Dev nD) : debt d 9 = 0 + tallyAt (dC (d + 3) (arecvQ d)) () NA + tallyAt (dC (d + 2) (arecvQ d)) () NA + tallyAt (dC (d + 1) (arecvQ d)) () NA
      + tallyAt (dC (d + 3) (recvQ d)) () NX + tallyAt (dC (d + 2) (recvQ d)) () NX + tallyAt (dC (d + 1) (recvQ d)) () NX
      + tallyAt (barC (d + 3)) () 1 + tallyAt (barC (d + 2)) () 1 + tallyAt (barC (d + 1)) () 1 := by
    rw [debt_succ, debt_succ, debt_succ, debt_succ, debt_succ, debt_succ, debt_succ, debt_succ, debt_succ]; rfl
  simp only [h, claim, Finset.sum_add_distrib, sum_bar]
  rw [sum_dma arecvQ NA 3 1 (by decide), sum_dma arecvQ NA 2 2 (by decide), sum_dma arecvQ NA 1 3 (by decide),
    sum_dma recvQ NX 3 1 (by decide), sum_dma recvQ NX 2 2 (by decide), sum_dma recvQ NX 1 3 (by decide), Finset.sum_const_zero]
  abel

theorem creds (c : Dev nD) :
    (Pipeline.launchCred (fun d => debt d 9) c : sProp 𝕄) ⊢ iprop(cred (tallyAt (barC c) () 3)
      ∗ (cred (tallyAt (dC c (recvQ (c + 1))) () NX) ∗ cred (tallyAt (dC c (recvQ (c + 2))) () NX) ∗ cred (tallyAt (dC c (recvQ (c + 3))) () NX))
      ∗ (cred (tallyAt (dC c (arecvQ (c + 1))) () NA) ∗ cred (tallyAt (dC c (arecvQ (c + 2))) () NA) ∗ cred (tallyAt (dC c (arecvQ (c + 3))) () NA))) := by
  rw [Pipeline.launchCred_of_sum _ claim claims_sum claim_on c]
  unfold claim
  rw [tallyAt_add, tallyAt_add]
  iintro H
  ihave H := ((cred_add _ _).1) $$ H
  icases H with ⟨Hb, H⟩
  ihave H := ((cred_add _ _).1) $$ H
  icases H with ⟨Hx, Ha⟩
  ihave Hx := ((cred_add _ _).1) $$ Hx
  icases Hx with ⟨Hx1, Hx⟩
  ihave Hx := ((cred_add _ _).1) $$ Hx
  icases Hx with ⟨Hx2, Hx3⟩
  ihave Ha := ((cred_add _ _).1) $$ Ha
  icases Ha with ⟨Ha1, Ha⟩
  ihave Ha := ((cred_add _ _).1) $$ Ha
  icases Ha with ⟨Ha2, Ha3⟩
  isplitl [Hb]; · iexact Hb
  isplitl [Hx1 Hx2 Hx3]
  · isplitl [Hx1]; · iexact Hx1
    isplitl [Hx2]; · iexact Hx2
    iexact Hx3
  isplitl [Ha1]; · iexact Ha1
  isplitl [Ha2]; · iexact Ha2
  iexact Ha3

/-! ## Closing the cells -/

/-- How many rounds of a cell are taken in all. -/
def posU (c : Fin 4) : Use → ℕ
  | .bar => 1
  | .idle => 0
  | .send d => if d = 0 then 0 else 1
  | .recv k => if k = c then 0 else 1
  | .wst _ => 4
  | .asend d => if d = 0 then 0 else 1
  | .arecv k => if k = c then 0 else 1

theorem gone_of {p : Prop} [Decidable p] (h : (if p then 0 else 1) ≤ 0) : (if p then ∅ else {0} : Finset (Fin 4)) = ∅ := by
  by_cases hp : p
  · exact if_pos hp
  · rw [if_neg hp] at h; exact absurd h (by decide)
theorem duties_end (c : Fin 4) (u : Use) (r : ℕ) (h : posU c u ≤ r) : dutiesU c u r = ∅ := by
  cases u with
  | idle => rcases r with _ | r <;> rfl
  | bar => rcases r with _ | r
           · exact absurd h (Nat.not_succ_le_zero 0)
           · rfl
  | wst b => exact if_neg (Nat.not_lt.mpr h)
  | send d => rcases r with _ | r
              · exact gone_of h
              · rfl
  | recv k => rcases r with _ | r
              · exact gone_of h
              · rfl
  | asend d => rcases r with _ | r
               · exact gone_of h
               · rfl
  | arecv k => rcases r with _ | r
               · exact gone_of h
               · rfl

/-- The positions of device `c`'s cells at the end. -/
def ends (c : Dev nD) : sProp 𝕄 := bigSep Finset.univ fun k : Fin 19 => atPos ER (kcell (c, k)) (posU c (use (csem k))) ∅ 0

theorem close_all (K : Dev nD × Fin 19 → ℕ) (c : Dev nD) :
    iprop(recs m ρ K ∗ ends c) ⊢ (|={Set.univ}=> iprop(unscopedSems0 c ∗ Pipeline.ownSems0 (Ix := Unit) (Name := ℕ) (U := UU) (Lvl := ℕ) (Val := Elt F) (τ := τ) osem c) : sProp 𝕄) := by
  rw [sems0_eq]
  unfold ends
  refine (bigSep_with_persistent (Ψ := fun k : Fin 19 => iprop(|={Set.univ}=> semVal (kcell (c, k)) 0)) fun k _ => ?_).trans (bigSep_fupd _ _)
  iintro ⟨HR, Ha⟩
  ihave HR := (recs_cell m ρ K (c, k)) $$ HR
  icases HR with ⟨%κ, HI, -⟩
  iapply (Rounds.cell_close ER (Rd m ρ) (g := kcell (c, k)) (κ := κ) (Set.mem_univ _) (fun h => h) (R := posU c (use (csem k)))
    (fun r hr => by rw [show kcell (c, k) = ((c : Thread nD τ), csem k) from rfl, Rd_duties]; exact duties_end c _ r hr))
  isplitl [HI]; · iexact HI
  iexact Ha

/-- A family over the cells of a device by what they are for. -/
theorem by_use (Φ : SemLoc sig → sProp 𝕄) :
    (bigSep Finset.univ fun k : Fin 19 => Φ (csem k))
      = iprop(Φ (.reg barS) ∗ (bigSep Finset.univ fun d : Fin 4 => Φ (.dma (sendQ d))) ∗ (bigSep Finset.univ fun d : Fin 4 => Φ (.dma (recvQ d)))
        ∗ (bigSep Finset.univ fun b : Fin 2 => Φ (.dma (wQ b))) ∗ (bigSep Finset.univ fun d : Fin 4 => Φ (.dma (asendQ d))) ∗ (bigSep Finset.univ fun d : Fin 4 => Φ (.dma (arecvQ d)))) := by
  have hu : (Finset.univ : Finset (Fin 19)) = insert 0 ((Finset.univ.image fun d : Fin 4 => (⟨1 + d.val, by omega⟩ : Fin 19)) ∪ ((Finset.univ.image fun d : Fin 4 => (⟨5 + d.val, by omega⟩ : Fin 19))
      ∪ ((Finset.univ.image fun d : Fin 2 => (⟨9 + d.val, by omega⟩ : Fin 19)) ∪ ((Finset.univ.image fun d : Fin 4 => (⟨11 + d.val, by omega⟩ : Fin 19)) ∪ (Finset.univ.image fun d : Fin 4 => (⟨15 + d.val, by omega⟩ : Fin 19)))))) := by decide
  rw [hu, bigSep_insert (by decide), BI.bigSep_union (by decide), BI.bigSep_union (by decide), BI.bigSep_union (by decide), BI.bigSep_union (by decide),
    bigSep_image_of_injOn (fun a _ b _ h => by revert a b; decide), bigSep_image_of_injOn (fun a _ b _ h => by revert a b; decide), bigSep_image_of_injOn (fun a _ b _ h => by revert a b; decide),
    bigSep_image_of_injOn (fun a _ b _ h => by revert a b; decide), bigSep_image_of_injOn (fun a _ b _ h => by revert a b; decide)]
  have e1 : ∀ d : Fin 4, csem (⟨1 + d.val, by omega⟩ : Fin 19) = .dma (sendQ d) := by decide
  have e2 : ∀ d : Fin 4, csem (⟨5 + d.val, by omega⟩ : Fin 19) = .dma (recvQ d) := by decide
  have e3 : ∀ d : Fin 2, csem (⟨9 + d.val, by omega⟩ : Fin 19) = .dma (wQ d) := by decide
  have e4 : ∀ d : Fin 4, csem (⟨11 + d.val, by omega⟩ : Fin 19) = .dma (asendQ d) := by decide
  have e5 : ∀ d : Fin 4, csem (⟨15 + d.val, by omega⟩ : Fin 19) = .dma (arecvQ d) := by decide
  simp only [e1, e2, e3, e4, e5]
  rfl

end Cert.Proof.Run

end
-- ==== Proof.Launch.lean ====
/-
# The run of the four devices

The launch deals every device its cells, tokens and credit; a device splits its buffers into the blocks the copies
move, runs, closes its cells and puts the buffers together again.
-/
module

public import proofs.«01_k».proof.Proof.Ghost
public import Idealize.ShloMosaic.Lib.Pipeline.CollectiveSegs

@[expose] public section

noncomputable section

namespace Cert.Proof.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Buffers by blocks -/

theorem row_disj : ∀ b b' : Fin 4, b ≠ b' → Disjoint (rowR b).set (rowR b').set := fun b b' h => by
  rw [Finset.disjoint_left]
  intro x hx hx'
  have h1 := Rect.mem_set_unit.mp hx 0
  have h2 := Rect.mem_set_unit.mp hx' 0
  change 1024 * b.val ≤ (x 0).val ∧ (x 0).val < 1024 * b.val + 1024 at h1
  change 1024 * b'.val ≤ (x 0).val ∧ (x 0).val < 1024 * b'.val + 1024 at h2
  exact h (Fin.ext (by omega))
theorem row_cover : (Finset.univ : Finset (Fin 4)).biUnion (fun b => (rowR b).set) = Finset.univ := by
  ext x
  simp only [Finset.mem_biUnion, Finset.mem_univ, true_and, iff_true]
  have h0 := (x 0).isLt
  change (x 0).val < 4096 at h0
  refine ⟨⟨(x 0).val / 1024, by omega⟩, Rect.mem_set_unit.mpr fun a => ?_⟩
  match a with
  | ⟨0, _⟩ => show 1024 * ((x 0).val / 1024) ≤ (x 0).val ∧ (x 0).val < 1024 * ((x 0).val / 1024) + 1024; omega
  | ⟨1, _⟩ => show 0 ≤ (x 1).val ∧ (x 1).val < 0 + 1024; have := (x 1).isLt; change (x 1).val < 1024 at this; omega

theorem slot_disj : ∀ b b' : Fin 4, b ≠ b' → Disjoint (slotR b).set (slotR b').set := fun b b' h => by
  rw [Finset.disjoint_left]
  intro x hx hx'
  have h1 := Rect.mem_set_unit.mp hx 0
  have h2 := Rect.mem_set_unit.mp hx' 0
  change b.val ≤ (x 0).val ∧ (x 0).val < b.val + 1 at h1
  change b'.val ≤ (x 0).val ∧ (x 0).val < b'.val + 1 at h2
  exact h (Fin.ext (by omega))
theorem slot_cover : (Finset.univ : Finset (Fin 4)).biUnion (fun b => (slotR b).set) = Finset.univ := by
  ext x
  simp only [Finset.mem_biUnion, Finset.mem_univ, true_and, iff_true]
  refine ⟨x 0, Rect.mem_set_unit.mpr fun a => ?_⟩
  match a with
  | ⟨0, _⟩ => show (x 0).val ≤ (x 0).val ∧ (x 0).val < (x 0).val + 1; omega
  | ⟨1, _⟩ => show 0 ≤ (x 1).val ∧ (x 1).val < 0 + 1024; have := (x 1).isLt; change (x 1).val < 1024 at this; omega
  | ⟨2, _⟩ => show 0 ≤ (x 2).val ∧ (x 2).val < 0 + 1024; have := (x 2).isLt; change (x 2).val < 1024 at this; omega

theorem half_disj : ∀ b b' : Fin 2, b ≠ b' → Disjoint (halfR b).set (halfR b').set := fun b b' h => by
  rw [Finset.disjoint_left]
  intro x hx hx'
  have h1 := Rect.mem_set_unit.mp hx 0
  have h2 := Rect.mem_set_unit.mp hx' 0
  change b.val ≤ (x 0).val ∧ (x 0).val < b.val + 1 at h1
  change b'.val ≤ (x 0).val ∧ (x 0).val < b'.val + 1 at h2
  exact h (Fin.ext (by omega))
theorem half_cover : (Finset.univ : Finset (Fin 2)).biUnion (fun b => (halfR b).set) = Finset.univ := by
  ext x
  simp only [Finset.mem_biUnion, Finset.mem_univ, true_and, iff_true]
  refine ⟨x 0, Rect.mem_set_unit.mpr fun a => ?_⟩
  match a with
  | ⟨0, _⟩ => show (x 0).val ≤ (x 0).val ∧ (x 0).val < (x 0).val + 1; omega
  | ⟨1, _⟩ => show 0 ≤ (x 1).val ∧ (x 1).val < 0 + 512; have := (x 1).isLt; change (x 1).val < 512 at this; omega
  | ⟨2, _⟩ => show 0 ≤ (x 2).val ∧ (x 2).val < 0 + 2048; have := (x 2).isLt; change (x 2).val < 2048 at this; omega

theorem wrow_disj : ∀ b b' : Fin 4 × Fin 2, b ≠ b' → Disjoint (wrowR b.1 b.2).set (wrowR b'.1 b'.2).set := fun ⟨k, b⟩ ⟨k', b'⟩ h => by
  rw [Finset.disjoint_left]
  intro x hx hx'
  have h1 := Rect.mem_set_unit.mp hx 0
  have h2 := Rect.mem_set_unit.mp hx' 0
  change 512 * (2 * k.val + b.val) ≤ (x 0).val ∧ (x 0).val < 512 * (2 * k.val + b.val) + 512 at h1
  change 512 * (2 * k'.val + b'.val) ≤ (x 0).val ∧ (x 0).val < 512 * (2 * k'.val + b'.val) + 512 at h2
  have hb := b.isLt; have hb' := b'.isLt
  exact h (Prod.ext (Fin.ext (by show k.val = k'.val; omega)) (Fin.ext (by show b.val = b'.val; omega)))
theorem wrow_cover : (Finset.univ : Finset (Fin 4 × Fin 2)).biUnion (fun b => (wrowR b.1 b.2).set) = Finset.univ := by
  ext x
  simp only [Finset.mem_biUnion, Finset.mem_univ, true_and, iff_true]
  have h0 := (x 0).isLt
  change (x 0).val < 4096 at h0
  refine ⟨(⟨(x 0).val / 1024, by omega⟩, ⟨(x 0).val / 512 % 2, by omega⟩), Rect.mem_set_unit.mpr fun a => ?_⟩
  match a with
  | ⟨0, _⟩ =>
    show 512 * (2 * ((x 0).val / 1024) + (x 0).val / 512 % 2) ≤ (x 0).val ∧ (x 0).val < 512 * (2 * ((x 0).val / 1024) + (x 0).val / 512 % 2) + 512
    omega
  | ⟨1, _⟩ => show 0 ≤ (x 1).val ∧ (x 1).val < 0 + 2048; have := (x 1).isLt; change (x 1).val < 2048 at this; omega

/-- Buffer `b` of device `c`, whole at some contents. -/
abbrev held (c : Dev nD) (b : Ref sig .tc) : sProp 𝕄 := iprop(∃ f : Buf (Elt F) ((c : Thread nD τ).loc b), ((c : Thread nD τ).loc b) ↦{fullShare} f)

theorem rows_split (c : Dev nD) : held (F := F) c cc0_scratch0 ⊢ iprop(rowAny c c ∗ rowAny c (c + 1) ∗ rowAny c (c + 2) ∗ rowAny c (c + 3)) := by
  unfold rowAny
  iintro ⟨%f, H⟩
  ihave H := (Entails.of_eq ((Ring.pointsTo_blocks (ℓ := (c : Thread nD τ).loc cc0_scratch0) (fun b : Fin 4 => (rowR b).set) row_disj row_cover f).trans (fin4_sep c _))) $$ H
  icases H with ⟨H0, H1, H2, H3⟩
  isplitl [H0]; · iexists f; iexact H0
  isplitl [H1]; · iexists f; iexact H1
  isplitl [H2]; · iexists f; iexact H2
  iexists f; iexact H3
theorem rows_join (c : Dev nD) : iprop(rowIs m ρ c c ∗ rowIs m ρ c (c + 1) ∗ rowIs m ρ c (c + 2) ∗ rowIs m ρ c (c + 3)) ⊢ held (F := F) c cc0_scratch0 := by
  unfold rowIs
  iintro H
  iexists (xbF m ρ c)
  iapply (Entails.of_eq ((Ring.pointsTo_blocks (ℓ := (c : Thread nD τ).loc cc0_scratch0) (fun b : Fin 4 => (rowR b).set) row_disj row_cover (xbF m ρ c)).trans (fin4_sep c _)).symm)
  iexact H

theorem slots_split (c : Dev nD) : held (F := F) c cc0_scratch1 ⊢ iprop(spot c c ∗ spot c (c + 1) ∗ spot c (c + 2) ∗ spot c (c + 3)) := by
  unfold spot
  iintro ⟨%f, H⟩
  ihave H := (Entails.of_eq ((Ring.pointsTo_blocks (ℓ := (c : Thread nD τ).loc cc0_scratch1) (fun b : Fin 4 => (slotR b).set) slot_disj slot_cover f).trans (fin4_sep c _))) $$ H
  icases H with ⟨H0, H1, H2, H3⟩
  isplitl [H0]; · iexists f; iexact H0
  isplitl [H1]; · iexists f; iexact H1
  isplitl [H2]; · iexists f; iexact H2
  iexists f; iexact H3
theorem slots_join (c : Dev nD) : iprop(spot (F := F) c c ∗ slotIs m ρ c (c + 1) ∗ slotIs m ρ c (c + 2) ∗ slotIs m ρ c (c + 3)) ⊢ held (F := F) c cc0_scratch1 := by
  unfold slotIs spot
  iintro ⟨H0, H1, H2, H3⟩
  iapply (Ring.pointsTo_blocks_join_exists (ℓ := (c : Thread nD τ).loc cc0_scratch1) (fun b : Fin 4 => (slotR b).set) slot_disj slot_cover (xgF m ρ c))
  iapply (Entails.of_eq (fin4_sep c (fun b => iprop(∃ f, ((c : Thread nD τ).loc cc0_scratch1) ↦[(slotR b).set]{fullShare} f))).symm)
  isplitl [H0]; · iexact H0
  isplitl [H1]; · iexists _; iexact H1
  isplitl [H2]; · iexists _; iexact H2
  iexists _; iexact H3

theorem fin2_sep (Φ : Fin 2 → sProp 𝕄) : bigSep Finset.univ Φ = iprop(Φ 0 ∗ Φ 1) :=
  bigSep_univ_eq_bigSepL [0, 1] (by decide) (by decide) Φ
theorem four_sep (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Half `b` of the staging of `w` at some contents. -/
def halfAny (c : Dev nD) (b : Fin 2) : sProp 𝕄 := iprop(∃ f, pc (F := F) c cc0_scratch2 (halfR b).set fullShare f)
theorem halves_split (c : Dev nD) : held (F := F) c cc0_scratch2 ⊢ iprop(halfAny c 0 ∗ halfAny c 1) := by
  unfold halfAny
  iintro ⟨%f, H⟩
  ihave H := (Entails.of_eq ((Ring.pointsTo_blocks (ℓ := (c : Thread nD τ).loc cc0_scratch2) (fun b : Fin 2 => (halfR b).set) half_disj half_cover f).trans (fin2_sep _))) $$ H
  icases H with ⟨H0, H1⟩
  isplitl [H0]; · iexists f; iexact H0
  iexists f; iexact H1
theorem halves_join (c : Dev nD) : iprop(pc c cc0_scratch2 (halfR 0).set fullShare (wbF m c (c + 1)) ∗ pc c cc0_scratch2 (halfR 1).set fullShare (wbF m c (c + 1))) ⊢ held (F := F) c cc0_scratch2 := by
  iintro H
  iexists (wbF m c (c + 1))
  iapply (Entails.of_eq ((Ring.pointsTo_blocks (ℓ := (c : Thread nD τ).loc cc0_scratch2) (fun b : Fin 2 => (halfR b).set) half_disj half_cover (wbF m c (c + 1))).trans (fin2_sep _)).symm)
  iexact H

theorem ams_split (c : Dev nD) : held (F := F) c cc0_scratch3 ⊢ iprop(aspot c c ∗ aspot c (c + 1) ∗ aspot c (c + 2) ∗ aspot c (c + 3)) := by
  unfold aspot
  iintro ⟨%f, H⟩
  ihave H := (Entails.of_eq (am_rows c f)) $$ H
  icases H with ⟨H0, H1, H2, H3⟩
  isplitl [H0]; · iexists f; iexact H0
  isplitl [H1]; · iexists f; iexact H1
  isplitl [H2]; · iexists f; iexact H2
  iexists f; iexact H3

/-- Device `c`'s `w`, whole. -/
def wAll (c : Dev nD) : sProp 𝕄 := ((c : Thread nD τ).loc main_arg1) ↦{fullShare} wF m c
theorem wAll_chunks (c : Dev nD) : wAll m c
    = iprop((wChunk m c c 0 ∗ wChunk m c c 1) ∗ (wChunk m c (c + 1) 0 ∗ wChunk m c (c + 1) 1) ∗ (wChunk m c (c + 2) 0 ∗ wChunk m c (c + 2) 1) ∗ (wChunk m c (c + 3) 0 ∗ wChunk m c (c + 3) 1)) := by
  unfold wAll
  rw [Ring.pointsTo_blocks (ℓ := (c : Thread nD τ).loc main_arg1) (fun b : Fin 4 × Fin 2 => (wrowR b.1 b.2).set) wrow_disj wrow_cover (wF m c), bigSep_univ_prod, fin4_sep c]
  simp only [fin2_sep]
  rfl

/-! ## Into and out of the device's run -/

/-- The credit dealt to device `c`. -/
def credit (c : Dev nD) : sProp 𝕄 :=
  iprop(cred (tallyAt (barC c) () 3)
      ∗ (cred (tallyAt (dC c (recvQ (c + 1))) () NX) ∗ cred (tallyAt (dC c (recvQ (c + 2))) () NX) ∗ cred (tallyAt (dC c (recvQ (c + 3))) () NX))
      ∗ (cred (tallyAt (dC c (arecvQ (c + 1))) () NA) ∗ cred (tallyAt (dC c (arecvQ (c + 2))) () NA) ∗ cred (tallyAt (dC c (arecvQ (c + 3))) () NA)))

/-- The four scratch buffers at some contents. -/
def scratch (c : Dev nD) : sProp 𝕄 := iprop(held (F := F) c cc0_scratch0 ∗ held (F := F) c cc0_scratch1 ∗ held (F := F) c cc0_scratch2 ∗ held (F := F) c cc0_scratch3)

/-- What the run leaves aside: the unused landing slot and the unused cells. -/
def spare (c : Dev nD) : sProp 𝕄 :=
  iprop(spot (F := F) c c ∗ atPos ER (dC c (sendQ 0)) 0 ∅ 0 ∗ atPos ER (dC c (recvQ c)) 0 ∅ 0 ∗ atPos ER (dC c (asendQ 0)) 0 ∅ 0 ∗ atPos ER (dC c (arecvQ c)) 0 ∅ 0)

theorem poss_split (c : Dev nD) : (poss c : sProp 𝕄) = iprop(atPos ER (barC c) 0 ∅ 0
    ∗ (atPos ER (dC c (sendQ 0)) 0 ∅ 0 ∗ atPos ER (dC c (sendQ 1)) 0 ∅ 0 ∗ atPos ER (dC c (sendQ 2)) 0 ∅ 0 ∗ atPos ER (dC c (sendQ 3)) 0 ∅ 0)
    ∗ (atPos ER (dC c (recvQ c)) 0 ∅ 0 ∗ atPos ER (dC c (recvQ (c + 1))) 0 ∅ 0 ∗ atPos ER (dC c (recvQ (c + 2))) 0 ∅ 0 ∗ atPos ER (dC c (recvQ (c + 3))) 0 ∅ 0)
    ∗ (atPos ER (dC c (wQ 0)) 0 ∅ 0 ∗ atPos ER (dC c (wQ 1)) 0 ∅ 0)
    ∗ (atPos ER (dC c (asendQ 0)) 0 ∅ 0 ∗ atPos ER (dC c (asendQ 1)) 0 ∅ 0 ∗ atPos ER (dC c (asendQ 2)) 0 ∅ 0 ∗ atPos ER (dC c (asendQ 3)) 0 ∅ 0)
    ∗ (atPos ER (dC c (arecvQ c)) 0 ∅ 0 ∗ atPos ER (dC c (arecvQ (c + 1))) 0 ∅ 0 ∗ atPos ER (dC c (arecvQ (c + 2))) 0 ∅ 0 ∗ atPos ER (dC c (arecvQ (c + 3))) 0 ∅ 0)) := by
  unfold poss
  rw [show (fun k : Fin 19 => (atPos ER (kcell (c, k)) 0 ∅ 0 : sProp 𝕄)) = fun k => (fun sm : SemLoc sig => (atPos ER ((c : Thread nD τ), sm) 0 ∅ 0 : sProp 𝕄)) (csem k) from rfl,
    by_use (fun sm : SemLoc sig => (atPos ER ((c : Thread nD τ), sm) 0 ∅ 0 : sProp 𝕄)),
    four_sep, four_sep (fun d => atPos ER ((c : Thread nD τ), .dma (asendQ d)) 0 ∅ 0), fin2_sep, fin4_sep c, fin4_sep c (fun d => atPos ER ((c : Thread nD τ), .dma (arecvQ d)) 0 ∅ 0)]

theorem ends_join (c : Dev nD) : iprop(atPos ER (barC c) 1 ∅ 0
    ∗ (atPos ER (dC c (sendQ 0)) 0 ∅ 0 ∗ done (F := F) c (sendQ 1) ∗ done (F := F) c (sendQ 2) ∗ done (F := F) c (sendQ 3))
    ∗ (atPos ER (dC c (recvQ c)) 0 ∅ 0 ∗ done (F := F) c (recvQ (c + 1)) ∗ done (F := F) c (recvQ (c + 2)) ∗ done (F := F) c (recvQ (c + 3)))
    ∗ (atPos ER (dC c (wQ 0)) 4 ∅ 0 ∗ atPos ER (dC c (wQ 1)) 4 ∅ 0)
    ∗ (atPos ER (dC c (asendQ 0)) 0 ∅ 0 ∗ done (F := F) c (asendQ 1) ∗ done (F := F) c (asendQ 2) ∗ done (F := F) c (asendQ 3))
    ∗ (atPos ER (dC c (arecvQ c)) 0 ∅ 0 ∗ done (F := F) c (arecvQ (c + 1)) ∗ done (F := F) c (arecvQ (c + 2)) ∗ done (F := F) c (arecvQ (c + 3)))) ⊢ (ends c : sProp 𝕄) := by
  have hne : ∀ c : Fin 4, c + 1 ≠ c ∧ c + 2 ≠ c ∧ c + 3 ≠ c := by decide
  obtain ⟨h1, h2, h3⟩ := hne c
  unfold ends done
  rw [show (fun k : Fin 19 => (atPos ER (kcell (c, k)) (posU c (use (csem k))) ∅ 0 : sProp 𝕄))
      = fun k => (fun sm : SemLoc sig => (atPos ER ((c : Thread nD τ), sm) (posU c (use sm)) ∅ 0 : sProp 𝕄)) (csem k) from rfl,
    by_use (fun sm : SemLoc sig => (atPos ER ((c : Thread nD τ), sm) (posU c (use sm)) ∅ 0 : sProp 𝕄))]
  simp only [use_send, use_recv, use_w, use_asend, use_arecv]
  rw [four_sep, four_sep (fun d => atPos ER ((c : Thread nD τ), .dma (asendQ d)) (posU c (.asend d)) ∅ 0), fin2_sep, fin4_sep c,
    fin4_sep c (fun d => atPos ER ((c : Thread nD τ), .dma (arecvQ d)) (posU c (.arecv d)) ∅ 0)]
  rw [show posU c (.recv c) = 0 from if_pos rfl, show posU c (.recv (c + 1)) = 1 from if_neg h1, show posU c (.recv (c + 2)) = 1 from if_neg h2,
    show posU c (.recv (c + 3)) = 1 from if_neg h3, show posU c (.arecv c) = 0 from if_pos rfl, show posU c (.arecv (c + 1)) = 1 from if_neg h1,
    show posU c (.arecv (c + 2)) = 1 from if_neg h2, show posU c (.arecv (c + 3)) = 1 from if_neg h3]
  exact .rfl

section Run
variable (K : Dev nD × Fin 19 → ℕ) (c : Dev nD)

theorem pre_intro : iprop(recs m ρ K ∗ poss c ∗ payToks c ∗ credit c ∗ scratch (F := F) c ∗ wAll m c ∗ ow c (debt c 9) ∗ xIs m ρ c ∗ (∃ f, oIs (F := F) c f))
    ⊢ iprop(devPre m ρ c ∗ spare (F := F) c) := by
  rw [poss_split, wAll_chunks]
  unfold payToks credit scratch
  rw [four_sep, four_sep, four_sep, four_sep, four_sep, four_sep, four_sep]
  iintro ⟨#HR, ⟨Pb, ⟨Ps0, Ps1, Ps2, Ps3⟩, ⟨Pr0, Pr1, Pr2, Pr3⟩, ⟨Pw0, Pw1⟩, ⟨Pa0, Pa1, Pa2, Pa3⟩, ⟨Pv0, Pv1, Pv2, Pv3⟩⟩,
    ⟨⟨-, Tb1, Tb2, Tb3⟩, ⟨-, Ts1, Ts2, Ts3⟩, ⟨-, Tr1, Tr2, Tr3⟩, ⟨-, Ta1, Ta2, Ta3⟩, ⟨-, Tv1, Tv2, Tv3⟩, ⟨Tw0, Tw1, Tw2, Tw3⟩, ⟨Tz0, Tz1, Tz2, Tz3⟩⟩,
    ⟨Cb, ⟨Cx1, Cx2, Cx3⟩, ⟨Ca1, Ca2, Ca3⟩⟩, ⟨S0, S1, S2, S3⟩, ⟨⟨W0, Z0⟩, ⟨W1, Z1⟩, ⟨W2, Z2⟩, ⟨W3, Z3⟩⟩, Ho, Hx, Hout⟩
  ihave S1 := (slots_split (F := F) c) $$ S1
  icases S1 with ⟨L0, L1, L2, L3⟩
  ihave S3 := (ams_split (F := F) c) $$ S3
  icases S3 with ⟨M0, M1, M2, M3⟩
  ihave S2 := (halves_split (F := F) c) $$ S2
  icases S2 with ⟨H0, H1⟩
  unfold devPre barPre sendPre asendPre wTok wRdy due spare halfAny
  isplitr [L0 Ps0 Pr0 Pa0 Pv0]
  · isplitl [Tb1 L1 M1 Tb2 L2 M2 Tb3 L3 M3 Cb Pb]
    · isplitl [Tb1 L1 M1]
      · isplitl [Tb1]; · iexact Tb1
        iapply (lent_join (F := F) c (c + 1)); isplitl [L1] <;> iassumption
      isplitl [Tb2 L2 M2]
      · isplitl [Tb2]; · iexact Tb2
        iapply (lent_join (F := F) c (c + 2)); isplitl [L2] <;> iassumption
      isplitl [Tb3 L3 M3]
      · isplitl [Tb3]; · iexact Tb3
        iapply (lent_join (F := F) c (c + 3)); isplitl [L3] <;> iassumption
      isplitl [Cb]; · iexact Cb
      iexact Pb
    isplitl [Ho]; · iexact Ho
    isplitl [Hx]; · iexact Hx
    isplitl [Hout]; · iexact Hout
    isplitl [S0]; · iapply (rows_split (F := F) c); iexact S0
    isplitl [H0 H1 Pw0 Pw1]
    · isplitl [H0 Pw0]
      · isplitl [H0]; · iexact H0
        isplitl [Pw0]; · iexact Pw0
        ihave Hc := (recs_dma m ρ K c (wQ 0) (wQ_ge 0)) $$ HR
        icases Hc with ⟨%κ, -, Hc⟩; iexact Hc
      isplitl [H1]; · iexact H1
      isplitl [Pw1]; · iexact Pw1
      ihave Hc := (recs_dma m ρ K c (wQ 1) (wQ_ge 1)) $$ HR
      icases Hc with ⟨%κ, -, Hc⟩; iexact Hc
    isplitl [W0 W1 W2 W3 Z0 Z1 Z2 Z3 Tw0 Tw1 Tw2 Tw3 Tz0 Tz1 Tz2 Tz3]
    · isplitl [W0 Z0 Tw0 Tz0]
      · isplitl [W0 Tw0]
        · isplitl [W0]; · iexact W0
          iexact Tw0
        isplitl [Z0]; · iexact Z0
        iexact Tz0
      isplitl [W3 Z3 Tw1 Tz1]
      · isplitl [W3 Tw1]
        · isplitl [W3]; · iexact W3
          iexact Tw1
        isplitl [Z3]; · iexact Z3
        iexact Tz1
      isplitl [W2 Z2 Tw2 Tz2]
      · isplitl [W2 Tw2]
        · isplitl [W2]; · iexact W2
          iexact Tw2
        isplitl [Z2]; · iexact Z2
        iexact Tz2
      isplitl [W1 Tw3]
      · isplitl [W1]; · iexact W1
        iexact Tw3
      isplitl [Z1]; · iexact Z1
      iexact Tz3
    isplitl [Ts1 Tr1 Ps1 Ts2 Tr2 Ps2 Ts3 Tr3 Ps3]
    · isplitl [Ts1 Tr1 Ps1]
      · isplitl [Ts1]; · iexact Ts1
        isplitl [Tr1] <;> iassumption
      isplitl [Ts2 Tr2 Ps2]
      · isplitl [Ts2]; · iexact Ts2
        isplitl [Tr2] <;> iassumption
      isplitl [Ts3]; · iexact Ts3
      isplitl [Tr3] <;> iassumption
    isplitl [Ta1 Tv1 Pa1 Ta2 Tv2 Pa2 Ta3 Tv3 Pa3]
    · isplitl [Ta1 Tv1 Pa1]
      · isplitl [Ta1]; · iexact Ta1
        isplitl [Tv1] <;> iassumption
      isplitl [Ta2 Tv2 Pa2]
      · isplitl [Ta2]; · iexact Ta2
        isplitl [Tv2] <;> iassumption
      isplitl [Ta3]; · iexact Ta3
      isplitl [Tv3] <;> iassumption
    isplitl [Cx1 Pr1 Cx2 Pr2 Cx3 Pr3]
    · isplitl [Cx1 Pr1]
      · isplitl [Cx1] <;> iassumption
      isplitl [Cx2 Pr2]
      · isplitl [Cx2] <;> iassumption
      isplitl [Cx3] <;> iassumption
    isplitl [Ca1 Pv1 Ca2 Pv2 Ca3 Pv3]
    · isplitl [Ca1 Pv1]
      · isplitl [Ca1] <;> iassumption
      isplitl [Ca2 Pv2]
      · isplitl [Ca2] <;> iassumption
      isplitl [Ca3] <;> iassumption
    iexact M0
  isplitl [L0]; · iexact L0
  isplitl [Ps0]; · iexact Ps0
  isplitl [Pr0]; · iexact Pr0
  isplitl [Pa0]; · iexact Pa0
  iexact Pv0

/-- What a device holds after its run, beside its staging: its semaphores at zero, the scratch buffers and `w`. -/
def Φ₁ : sProp 𝕄 :=
  iprop((unscopedSems0 c ∗ Pipeline.ownSems0 (Ix := Unit) (Name := ℕ) (U := UU) (Lvl := ℕ) (Val := Elt F) (τ := τ) osem c) ∗ scratch (F := F) c ∗ wAll m c)

theorem post_elim : iprop(recs m ρ K ∗ devPost m ρ c ∗ spare (F := F) c)
    ⊢ (|={Set.univ}=> iprop(Φ₁ m c ∗ ow c (debt c 0) ∗ xIs m ρ c ∗ oIs c (outF m ρ c)) : sProp 𝕄) := by
  unfold devPost spare wHave
  iintro ⟨HR, ⟨Ho, Hb, Hx, Hout, Hrows, ⟨L1, L2, L3⟩, ⟨⟨H0, Pw0, -⟩, ⟨H1, Pw1, -⟩⟩, Hw, Ds, Dr, Da, Dv, Hm⟩, L0, Ps0, Pr0, Pa0, Pv0⟩
  imod (close_all m ρ K c) $$ [HR Hb Ps0 Pr0 Pa0 Pv0 Pw0 Pw1 Ds Dr Da Dv] with Hz
  · isplitl [HR]; · iexact HR
    iapply (ends_join (F := F) c)
    isplitl [Hb]; · iexact Hb
    isplitl [Ps0 Ds]
    · isplitl [Ps0] <;> iassumption
    isplitl [Pr0 Dr]
    · isplitl [Pr0] <;> iassumption
    isplitl [Pw0 Pw1]
    · isplitl [Pw0] <;> iassumption
    isplitl [Pa0 Da]
    · isplitl [Pa0] <;> iassumption
    isplitl [Pv0] <;> iassumption
  imodintro
  isplitl [Hz Hrows L0 L1 L2 L3 H0 H1 Hm Hw]
  · unfold Φ₁
    isplitl [Hz]; · iexact Hz
    isplitr [Hw]
    · unfold scratch
      isplitl [Hrows]; · iapply (rows_join m ρ c); iexact Hrows
      isplitl [L0 L1 L2 L3]
      · iapply (slots_join m ρ c)
        isplitl [L0]; · iexact L0
        isplitl [L1]; · iexact L1
        isplitl [L2] <;> iassumption
      isplitl [H0 H1]
      · iapply (halves_join m c); isplitl [H0] <;> iassumption
      iexists (amF m ρ); iexact Hm
    · rw [wAll_chunks]; iexact Hw
  isplitl [Ho]; · iexact Ho
  isplitl [Hx]; · iexact Hx
  iexact Hout

end Run

/-! ## The proof data -/

/-- What a device starts from. -/
def start (c : Dev nD) : sProp 𝕄 := iprop(G' m ρ c ∗ credit c ∗ levAts L lv ∗ wAll m c)

def Φ₀ (c : Dev nD) : sProp 𝕄 := iprop(start m ρ c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xF m ρ c
    | ⟨1, _⟩ => outF m ρ c
  Φ t := match t with
    | ⟨0, _⟩ => Φ₀ m ρ c
    | ⟨_ + 1, _⟩ => Φ₁ m c
  q _ := fullShare
  owed t := match t with
    | ⟨0, _⟩ => debt c 9
    | ⟨_ + 1, _⟩ => debt c 0

theorem bigSep_W (Φ : Fin cfg0.W → sProp 𝕄) : bigSep Finset.univ Φ = iprop(Φ (0 : Fin 2) ∗ Φ (1 : Fin 2)) := bigSep_W0 Φ

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ m c ∗ (dats m ρ 0 c).owesAt () t0_0.succ ∗ stg c cc0_stg0_0 (xF m ρ c) ∗ stg c cc0_stg1_0 (outF m ρ c))

theorem W_fupd {α : Type} {Q : α → sProp (MT nD τ sig Unit (Elt F) ℕ UU ℕ)} (c : Dev nD) (p : Prog (TpuEff nD τ sig (Elt F) Λ₀ .tc) α) :
    W (F := F) c p (fun a => iprop(|={Set.univ}=> Q a)) ⊢ W c p Q := wp_fupd _ _ _ p Q

theorem body_run (c : Dev nD) : bodyPre m ρ c ⊢ W c (cc0_body (Memref.whole cc0_stg0_0) (Memref.isWhole_whole _) (Memref.whole main_arg1) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8) (fun _ => bodyPost m ρ c) := by
  unfold bodyPre Φ₀ start G'
  iintro ⟨⟨⟨⟨%K, #HR, Hpos, Htok⟩, Hcr, #Hl, Hw⟩, Hscr⟩, Ho, ⟨%d0, %g0, %hg0, Hx⟩, ⟨%d1, %g1, %hg1, Hout⟩⟩
  have hx : g0 = xF m ρ c := by rw [hg0]; unfold Dat.before; rw [if_pos (fetch0_0 t0_0)]; rfl
  subst hx
  unfold Dat.owesAt Pipeline.owesWithin
  icases Ho with ⟨%W, %hW, HO⟩
  ihave H := (pre_intro m ρ K c) $$ [Hpos Htok Hcr Hw Hscr HO Hx Hout]
  · isplitr; · iexact HR
    isplitl [Hpos]; · iexact Hpos
    isplitl [Htok]; · iexact Htok
    isplitl [Hcr]; · iexact Hcr
    isplitl [Hscr]; · iexact Hscr
    isplitl [Hw]; · iexact Hw
    isplitl [HO]; · unfold ow; iexists W; iexact HO
    isplitl [Hx]; · unfold xIs; iexact Hx
    iexists g1; unfold oIs; iexact Hout
  icases H with ⟨Hpre, Hsp⟩
  iapply (W_fupd c)
  iapply (dev_run m ρ K) $$ [Hpre]
  · isplitr; · iexact HR
    isplitr; · iexact Hl
    iexact Hpre
  iintro Hpost
  imod (post_elim m ρ K c) $$ [Hpost Hsp] with H
  · isplitr; · iexact HR
    isplitl [Hpost] <;> iassumption
  icases H with ⟨H1, HO, Hx, Hout⟩
  imodintro
  unfold bodyPost Dat.owesAt Pipeline.owesWithin
  isplitl [H1]; · iexact H1
  isplitl [HO]
  · unfold ow
    icases HO with ⟨%W', HO⟩
    iexists W'
    isplitr; · ipureintro; exact fun _ _ => Or.inl trivial
    iexact HO
  isplitl [Hx]
  · unfold xIs
    iexists _; isplitr; · (ipureintro; rfl)
    iexact Hx
  unfold oIs
  iexists _; isplitr; · (ipureintro; rfl)
  iexact Hout

set_option maxRecDepth 4000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact body_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => debt d 9) c ∗ prngReg c (ρ c) ∗ G' m ρ c)
      ⊢ |={Set.univ}=> iprop(start m ρ c ∗ emp) := by
  rw [Pipeline.unscopedRestP_none, unscopedRest0_eq]
  iintro ⟨Hw, Hlev, Hcr, -, HG⟩
  ihave Hc := (creds (F := F) c) $$ Hcr
  imodintro
  unfold start credit wAll
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop((unscopedSems0 c ∗ wAll m c) ∗ Pipeline.ownSems0 osem c ∗ Pipeline.scopedRest cfg0.spec c) := by
  rw [show (dats m ρ 0 c).Φ (Fin.last cfg0.N) = Φ₁ m c from rfl, scopedRest0_eq]
  unfold Φ₁ scratch
  iintro ⟨⟨Hu, Ho⟩, Hr, Hw⟩
  isplitl [Hu Hw]
  · isplitl [Hu] <;> iassumption
  isplitl [Ho]; · iexact Ho
  iexact Hr

theorem above_debt9 (c : Dev nD) : Above 0 (debt c 9) := by
  have h6 : Above 0 (debt c 6) := fun g u hg => ⟨(above_debt6 c g u hg).1, Nat.lt_of_succ_lt (above_debt6 c g u hg).2⟩
  rw [debt_succ, debt_succ, debt_succ]
  exact above_add (above_add (above_add h6 (above_tally _ _ _ Nat.one_pos)) (above_tally _ _ _ Nat.one_pos)) (above_tally _ _ _ Nat.one_pos)

theorem waits (c : Dev nD) : (levAts L lv : sProp 𝕄) ⊢ Pipeline.cellsWaits cfgs (dats m ρ) () 0 c :=
  Pipeline.cellsWaits_intro cfgs (dats m ρ) () 0 c fun w s t =>
    mayWait c _ (by
      have hl : lvU (use (.dma ((cfg0.win w).sem s))) = 0 := by fin_cases w <;> fin_cases s <;> rfl
      rw [show lvU _ = 0 from hl]
      rcases t with ⟨_ | _, ht⟩
      · exact above_debt9 c
      · exact above_debt0 c 0)

/-! ## The run -/

def finalA (c : Dev nD) (w : Fin cfg0.W) : Buf (Elt F) ((cfg0.win w).arr.view.loc (c : Thread nD τ)) := (dats m ρ 0 c).arrAt w cfg0.N

set_option maxRecDepth 8000 in
/-- Every fair execution ends, with each device's arrays at the computed contents and every semaphore at zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = wF m c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => debt d 9) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wAll m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem ((c : Thread nD τ).loc main_arg1) = wF m c)
    (hY := fun c s' => by
      unfold wAll
      iintro ⟨⟨Hu, Hw⟩, -, HSI⟩
      icombine HSI Hw gives %h
      ihave H := (Pipeline.unscopedSems0_read (X := unscopedSems0 c) (c := c) fupd_intro s') $$ [Hu HSI]
      · isplitl [Hu] <;> iassumption
      imod H with ⟨%hs, HSI⟩
      imodintro
      isplitr; · ipureintro; exact ⟨hs, Buf.eq_of_forall_mem_univ h⟩
      iexact HSI)
    (hQ := fun _ h hs => ⟨fun c => ⟨(h c).1, (h c).2.2.2⟩, sem_eq_zero hs fun c => (h c).2.2.1⟩)

end Cert.Proof.Run

end
-- ==== Proof.Frames.lean ====
/-
# What the arrays hold at the end

The input array is never written, and the output array holds the block the one point wrote back; the claims that the
arguments stay and the semaphores return to zero follow.
-/
module

public import proofs.«01_k».proof.Defs
public import proofs.«01_k».proof.Proof.Same
public import proofs.«01_k».proof.Proof.Launch
public import proofs.«01_k».proof.Proof.Gen.Kernel
public import proofs.«01_k».proof.Proof.Gen.ReferenceIdeal.Value

@[expose] public section

noncomputable section

namespace Cert.Proof.Run

open Cert.KernelIdeal Cert.KernelIdeal.Gen
open Idealize.ShloMosaic
open Idealize.ShloMosaic.TcCoe
open Idealize.SL.Sem
open Idealize.ShloMosaic.Pipeline (Dat Cfg Window)

variable {F : FTy → Type} [FloatOps F] [Named F]
variable (m : (ℓ : Loc nD τ sig) → Buf (Elt F) ℓ) (ρ : Dev nD → PrngReg)

theorem finalA_in (c : Dev nD) : finalA m ρ c (0 : Fin 2) = m ((c : Thread nD τ).loc main_arg0) :=
  (dats m ρ 0 c).arrAt_in (0 : Fin 2) rfl _

/-- One point, one block. -/
theorem out_disjoint : ∀ t t' : Fin cfg0.N, (cfg0.win (1 : Fin 2)).flush t = true → (cfg0.win (1 : Fin 2)).flush t' = true → t ≠ t' →
    Disjoint ((cfg0.win (1 : Fin 2)).blk t).view.set ((cfg0.win (1 : Fin 2)).blk t').view.set :=
  fun t t' _ _ hne => absurd (fin_N0 t |>.trans (fin_N0 t').symm) hne

theorem finalA_out_read (c : Dev nD) :
    ((cfg0.win (1 : Fin 2)).blk t0_0).view.read (Elt F) (finalA m ρ c (1 : Fin 2)) = (dats m ρ 0 c).flushed (1 : Fin 2) t0_0 :=
  (dats m ρ 0 c).read_blk_arrAt_eq_flushed (1 : Fin 2) out_disjoint cfg0.N t0_0 t0_0.isLt (flush0_1 _)

theorem finalA_out (c : Dev nD) : finalA m ρ c (1 : Fin 2) = outF m ρ c := by
  have h := finalA_out_read m ρ c
  funext i
  have hi : ((cfg0.win (1 : Fin 2)).blk t0_0).view.emb i = i := by
    funext a; apply Fin.ext
    match a with
    | ⟨0, _⟩ => show 0 * 1024 + 1 * (i 0).val = (i 0).val; omega
    | ⟨1, _⟩ => show 0 * 2048 + 1 * (i 1).val = (i 1).val; omega
  have h' := congrFun h i
  rw [show finalA m ρ c (1 : Fin 2) i = ((cfg0.win (1 : Fin 2)).blk t0_0).view.read (Elt F) (finalA m ρ c (1 : Fin 2)) i from
    (congrArg (finalA m ρ c (1 : Fin 2)) hi).symm, h']
  rfl

/-- The staged block of the input is the array. -/
theorem xF_eq (c : Dev nD) : xF m ρ c = m ((c : Thread nD τ).loc main_arg0) := by
  funext i
  have hi : ((cfg0.win (0 : Fin 2)).blk t0_0).view.emb i = i := by
    funext a; apply Fin.ext
    match a with
    | ⟨0, _⟩ => show 0 * 4096 + 1 * (i 0).val = (i 0).val; omega
    | ⟨1, _⟩ => show 0 * 1024 + 1 * (i 1).val = (i 1).val; omega
  exact congrArg (m ((c : Thread nD τ).loc main_arg0)) hi

/-- The run, its end read at the arrays. -/
theorem run_ends : θ_run defs (onTc (τ := τ) (main (F := F))) ⟨m, fun _ => 0, ρ⟩ (fun r =>
    (∀ c : Dev nD, r.2.mem ((c : Thread nD τ).loc main_v1) = outF m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨((h.1 c).1 (1 : Fin 2)).trans (finalA_out m ρ c),
    ((h.1 c).1 (0 : Fin 2)).trans (finalA_in m ρ c), (h.1 c).2⟩, h.2⟩) (run_main m ρ)

end Cert.Proof.Run

namespace Cert.Proof

open Idealize.ShloMosaic Idealize.SL.Sem

theorem frame_ideal : Cert.quiescent_KernelIdeal (hKernelIdeal := Cert.KernelIdeal.Gen.facts) := fun m g _ =>
  (θ_run _ _ _).mono (fun _ h => ⟨fun c => (h.1 c).2, h.2⟩) (Run.run_ends m g)

theorem frame_ref : Cert.quiescent_ReferenceIdeal (hReferenceIdeal := Cert.ReferenceIdeal.Gen.facts) := fun m g _ =>
  Cert.ReferenceIdeal.Gen.frame m g

attribute [local instance] namedBits

theorem frame_bits : Cert.quiescent_Kernel (hKernel := Cert.Kernel.Gen.facts) := fun m g _ => by
  rw [main_eq, defs_eq]
  exact (θ_run _ _ _).mono (fun _ h => ⟨fun c => (h.1 c).2, h.2⟩) (Run.run_ends (F := Bits) m g)

theorem named : Cert.preserves_Kernel_KernelIdeal :=
  IdealRules.named_const.statement _ _ _ _ _ rfl

end Cert.Proof

end
-- ==== Proof.Value.lean ====
/-
# The value of the result

Over the extended reals the eight products a device adds up are its rows of the one product the reference takes, the
maxima the devices exchange have the reference's maximum as theirs, and the two quantisers agree at every value.
-/
module

public import proofs.«01_k».proof.Proof.Frames
public import Idealize.ShloMosaic.Lib.Pointwise
public import Idealize.ShloMosaic.PureOps.Ideal.Laws

@[expose] public section

noncomputable section

namespace Cert.Proof.Math

open Idealize.ShloMosaic

/-! ## Numbers -/

theorem bits_bot : Ideal.ofBits .f32 0xFF800000#32 = ⊥ := by
  simp [Ideal.ofBits, Ideal.ieee]
theorem bits_448 : Ideal.ofBits .f32 0x43E00000#32 = ((448 : ℝ) : EReal) := by
  simp [Ideal.ofBits, Ideal.ieee, -EReal.coe_mul]; norm_num
theorem bits_neg448 : Ideal.ofBits .f32 0xC3E00000#32 = ((-448 : ℝ) : EReal) := by
  simp [Ideal.ofBits, Ideal.ieee, -EReal.coe_mul]; norm_num

/-- Clipped to the range of the eight-bit format. -/
def clip (y : EReal) : EReal := min ((448 : ℝ) : EReal) (max ((-448 : ℝ) : EReal) y)

/-- The kernel multiplies by `448 / g` and back by `g` times `1 / 448`. -/
def quantK (y g : EReal) : EReal := clip (y * Ideal.div ((448 : ℝ) : EReal) g) * (g * ((448⁻¹ : ℝ) : EReal))
/-- The reference divides by `g / 448` and multiplies back by it. -/
def quantR (y g : EReal) : EReal := clip (Ideal.div y (Ideal.div g ((448 : ℝ) : EReal))) * Ideal.div g ((448 : ℝ) : EReal)

theorem scale_eq (g : EReal) : Ideal.div g ((448 : ℝ) : EReal) = g * ((448⁻¹ : ℝ) : EReal) := by
  rw [Ideal.div_coe (by norm_num), one_div]

/-- The two agree at every value and every maximum: at zero the scale is zero, at an infinity the quotients are. -/
theorem quant_eq (y g : EReal) : quantK y g = quantR y g := by
  unfold quantK quantR
  rw [scale_eq]
  by_cases h0 : g = 0
  · subst h0; simp
  refine congrArg (fun z => clip z * _) ?_
  induction g with
  | bot =>
    have h : (⊥ : EReal) * ((448⁻¹ : ℝ) : EReal) = ⊥ := EReal.bot_mul_coe_of_pos (by norm_num)
    rw [h]; simp [Ideal.div]
  | top =>
    have h : (⊤ : EReal) * ((448⁻¹ : ℝ) : EReal) = ⊤ := EReal.top_mul_coe_of_pos (by norm_num)
    rw [h]; simp [Ideal.div]
  | coe g =>
    have hg : g ≠ 0 := fun h => h0 (by rw [h]; rfl)
    rw [← EReal.coe_mul, Ideal.div_coe hg, Ideal.div_coe (mul_ne_zero hg (by norm_num)), ← EReal.coe_mul]
    congr 2
    field_simp

/-! ## Sums and maxima -/

/-- The four blocks in the order device `c` takes them. -/
theorem sum_turn (f : Fin 4 → EReal) : ∀ c : Fin 4, f c + f (c + 3) + f (c + 2) + f (c + 1) = ∑ k, f k := by
  intro c
  rw [Fin.sum_univ_four]
  fin_cases c
  · show f 0 + f 3 + f 2 + f 1 = _; ac_rfl
  · show f 1 + f 0 + f 3 + f 2 = _; ac_rfl
  · show f 2 + f 1 + f 0 + f 3 = _; ac_rfl
  · show f 3 + f 2 + f 1 + f 0 = _; ac_rfl

/-- Row `r` of device `c`'s rows. -/
def row (c : Fin 4) (r : Fin 1024) : Fin 4096 := ⟨1024 * c.val + r.val, by have := c.isLt; have := r.isLt; omega⟩
/-- Place `x` of half `b` of block `k`. -/
def col (k : Fin 4) (b : Fin 2) (x : Fin 512) : Fin 4096 :=
  ⟨512 * (2 * k.val + b.val) + x.val, by have := k.isLt; have := b.isLt; have := x.isLt; omega⟩

theorem row_surj (i : Fin 4096) : ∃ c r, row c r = i :=
  ⟨⟨i.val / 1024, by have := i.isLt; omega⟩, ⟨i.val % 1024, by omega⟩, Fin.ext (by show 1024 * (i.val / 1024) + i.val % 1024 = i.val; omega)⟩

/-- A sum along the contracted axis, by blocks and halves. -/
theorem sum_blocks (f : Fin 4096 → EReal) : ∑ i, f i = ∑ k : Fin 4, (∑ x : Fin 512, f (col k 0 x) + ∑ x : Fin 512, f (col k 1 x)) := by
  rw [Fin.sum_univ_tiles 4 1024 (by norm_num) f]
  refine Finset.sum_congr rfl fun k _ => ?_
  rw [Fin.sum_univ_tiles 2 512 (by norm_num), Fin.sum_univ_two]
  congr 1
  · refine Finset.sum_congr rfl fun x _ => congrArg f (Fin.ext ?_)
    show k.val * 1024 + (0 * 512 + x.val) = 512 * (2 * k.val + 0) + x.val
    omega
  · refine Finset.sum_congr rfl fun x _ => congrArg f (Fin.ext ?_)
    show k.val * 1024 + (1 * 512 + x.val) = 512 * (2 * k.val + 1) + x.val
    omega

theorem fold_sup {ι : Type} (s : Finset ι) (f : ι → EReal) : s.fold max ⊥ f = s.sup f := rfl

/-- A maximum of maxima, when the parts are the whole. -/
theorem sup_parts {α β γ : Type} [Fintype α] [Fintype β] [Fintype γ] (e : α → β → γ) (he : ∀ z, ∃ a b, e a b = z) (Y : γ → EReal) :
    ((Finset.univ : Finset α).sup fun a => (Finset.univ : Finset β).sup fun b => Y (e a b)) = (Finset.univ : Finset γ).sup Y := by
  apply le_antisymm
  · exact Finset.sup_le fun a _ => Finset.sup_le fun b _ => Finset.le_sup (f := Y) (Finset.mem_univ (e a b))
  · refine Finset.sup_le fun z _ => ?_
    obtain ⟨a, b, rfl⟩ := he z
    exact (Finset.le_sup (f := fun b => Y (e a b)) (Finset.mem_univ b)).trans
      (Finset.le_sup (f := fun a => (Finset.univ : Finset β).sup fun b => Y (e a b)) (Finset.mem_univ a))

theorem rows_surj (z : Fin 4096 × Fin 2048) : ∃ (p : Fin 4 × Fin 128) (q : Fin 1024 × Fin 2048), (row p.1 q.1, q.2) = z := by
  obtain ⟨c, r, h⟩ := row_surj z.1
  exact ⟨(c, 0), (r, z.2), Prod.ext h rfl⟩

/-- The greatest of the devices' maxima is the maximum over all rows. -/
theorem sup_rows (Y : Fin 4096 × Fin 2048 → EReal) :
    (Finset.univ : Finset (Fin 4 × Fin 128)).sup (fun p => (Finset.univ : Finset (Fin 1024 × Fin 2048)).sup fun q => Y (row p.1 q.1, q.2))
      = (Finset.univ : Finset (Fin 4096 × Fin 2048)).sup Y :=
  sup_parts (fun (p : Fin 4 × Fin 128) (q : Fin 1024 × Fin 2048) => (row p.1 q.1, q.2)) rows_surj Y

/-! ## What the payloads compute -/

section
open Cert.KernelIdeal Cert.KernelIdeal.Gen

theorem first_apply (x : Vec Ideal S1024x512 .bf16) (w : Vec Ideal S1x512x2048 .f32) (r : Fin 1024) (l : Fin 2048) :
    k0_pay7 x w (ix2 r l) = ∑ t : Fin 512, x (ix2 r t) * w (ix3 0 t l) := by
  pointwise [k0_pay7]
theorem own_apply (x : Vec Ideal S1024x512 .bf16) (w : Vec Ideal S1x512x2048 .f32) (a : Vec Ideal S1024x2048 .f32) (r : Fin 1024) (l : Fin 2048) :
    k0_pay8 x w a (ix2 r l) = a (ix2 r l) + ∑ t : Fin 512, x (ix2 r t) * w (ix3 0 t l) := by
  pointwise [k0_pay8]
theorem step_apply (x : Vec Ideal S1x1024x512 .bf16) (w : Vec Ideal S1x512x2048 .f32) (a : Vec Ideal S1024x2048 .f32) (r : Fin 1024) (l : Fin 2048) :
    k0_pay9 x w a (ix2 r l) = a (ix2 r l) + ∑ t : Fin 512, x (ix3 0 r t) * w (ix3 0 t l) := by
  pointwise [k0_pay9]
theorem max_apply (a : Vec Ideal S1024x2048 .f32) (l : Fin 128) :
    k0_pay19 a (ix2 0 l) = (Finset.univ : Finset (Fin 1024 × Fin 2048)).sup fun q => max (a (ix2 q.1 q.2)) (-a (ix2 q.1 q.2)) := by
  pointwise [k0_pay19]
  rw [bits_bot]; rfl
theorem out_apply (am : Vec Ideal S4x128 .f32) (a : Vec Ideal S1024x2048 .f32) (r : Fin 1024) (l : Fin 2048) :
    k0_pay1 am a (ix2 r l) = quantK (a (ix2 r l)) ((Finset.univ : Finset (Fin 4 × Fin 128)).sup fun p => am (ix2 p.1 p.2)) := by
  pointwise [k0_pay1]
  rw [bits_bot, bits_448, bits_neg448, IdealRules.named_const.ideal_named_scalar κ "inv448" _ ((448⁻¹ : ℝ) : EReal) rfl]; rfl
end

theorem ref_apply (y : Vec Ideal Cert.ReferenceIdeal.S4096x2048 .f32) (i : Fin 4096) (l : Fin 2048) :
    Cert.ReferenceIdeal.Gen.k0_pay1 y (ix2 i l)
      = quantR (y (ix2 i l)) ((Finset.univ : Finset (Fin 4096 × Fin 2048)).sup fun q => max (y (ix2 q.1 q.2)) (-y (ix2 q.1 q.2))) := by
  pointwise [Cert.ReferenceIdeal.Gen.k0_pay1]
  rw [bits_bot, bits_448, bits_neg448]; rfl

/-- The product of the whole arrays. -/
def whole (X : Vec Ideal Cert.ReferenceIdeal.S4096x4096 .f32) (W : Vec Ideal Cert.ReferenceIdeal.S4096x2048 .f32) :
    Vec Ideal Cert.ReferenceIdeal.S4096x2048 .f32 :=
  Host.dotGeneral (F := Ideal) (φ₁ := .f32) (φ₂ := .f32) Cert.ReferenceIdeal.dot_S4096x4096_S4096x2048_S4096x2048_1_0_0_1_n_n none X W

theorem whole_apply (X : Vec Ideal Cert.ReferenceIdeal.S4096x4096 .f32) (W : Vec Ideal Cert.ReferenceIdeal.S4096x2048 .f32)
    (i : Fin 4096) (l : Fin 2048) : whole X W (ix2 i l) = ∑ t : Fin 4096, X (ix2 i t) * W (ix2 t l) := by
  pointwise [whole]

end Cert.Proof.Math

/-! ## The kernel's contents -/

namespace Cert.Proof.Run

open Cert.KernelIdeal Cert.KernelIdeal.Gen
open Idealize.ShloMosaic Idealize.ShloMosaic.TcCoe
open Cert.Proof.Math

variable (m : (ℓ : Loc nD τ sig) → Buf (Elt Ideal) ℓ) (ρ : Dev nD → PrngReg)
variable (X : Vec Ideal Cert.ReferenceIdeal.S4096x4096 .f32) (W : Vec Ideal Cert.ReferenceIdeal.S4096x2048 .f32)

/-- Every device holds its columns of `X`. -/
def HoldsX : Prop := ∀ c : Dev nD, m ((c : Thread nD τ).loc main_arg0) = Layout.block ⟨2, ![4096, 1024]⟩ ⟨2, ![4096, 4096]⟩ 1 4 c X
/-- Every device holds all of `W`. -/
def HoldsW : Prop := ∀ c : Dev nD, m ((c : Thread nD τ).loc main_arg1) = W

theorem xbF_apply (hX : HoldsX m X) (c : Dev nD) (i : S4096x1024.Idx) :
    xbF m ρ c i = X (ix2 ⟨(i 0).val, (i 0).isLt⟩ ⟨1024 * c.val + (i 1).val, by
      have h := (i 1).isLt; have := c.isLt; change _ < 1024 at h; change _ < 4 at this; omega⟩) := by
  show xF m ρ c i = _
  rw [xF_eq, hX c, Layout.block_apply]
  congr 1
  funext a; apply Fin.ext
  match a with
  | ⟨0, _⟩ => rfl
  | ⟨1, _⟩ => show c.val * 1024 + (i 1).val = 1024 * c.val + (i 1).val; omega

theorem xo_apply (hX : HoldsX m X) (c : Dev nD) (b : Fin 2) (r : Fin 1024) (t : Fin 512) :
    xo m ρ c b (ix2 r t) = X (ix2 (row c r) (col c b t)) := by
  unfold xo
  rw [xbF_apply m ρ X hX]
  congr 1
  funext a; apply Fin.ext
  match a with
  | ⟨0, _⟩ => show 1024 * c.val + 1 * r.val = 1024 * c.val + r.val; omega
  | ⟨1, _⟩ => show 1024 * c.val + (512 * b.val + 1 * t.val) = 512 * (2 * c.val + b.val) + t.val; omega

theorem xs_apply (hX : HoldsX m X) (c : Dev nD) (k : Fin 4) (b : Fin 2) (r : Fin 1024) (t : Fin 512) :
    xs m ρ c k b (ix3 0 r t) = X (ix2 (row c r) (col k b t)) := by
  refine (xbF_apply m ρ X hX _ _).trans (congrArg X ?_)
  funext a; apply Fin.ext
  match a with
  | ⟨0, _⟩ => show 1024 * c.val + (0 + 1 * r.val) = 1024 * c.val + r.val; omega
  | ⟨1, _⟩ => show 1024 * (k.val + 1 * 0) + (512 * b.val + 1 * t.val) = 512 * (2 * k.val + b.val) + t.val; omega

theorem ws_apply (hW : HoldsW m W) (c : Dev nD) (k : Fin 4) (b : Fin 2) (t : Fin 512) (l : Fin 2048) :
    ws m c k b (ix3 0 t l) = W (ix2 (col k b t) l) := by
  unfold ws wbF wF
  rw [hW c]
  congr 1
  funext a; apply Fin.ext
  match a with
  | ⟨0, _⟩ => show 512 * (2 * k.val + (b.val + 1 * 0)) + (0 + 1 * t.val) = 512 * (2 * k.val + b.val) + t.val; omega
  | ⟨1, _⟩ => show 0 + 1 * l.val = l.val; omega

/-- One product of half a block. -/
def part (c k : Fin 4) (b : Fin 2) (r : Fin 1024) (l : Fin 2048) : EReal :=
  ∑ t : Fin 512, X (ix2 (row c r) (col k b t)) * W (ix2 (col k b t) l)

/-- The accumulator at the end is the product's rows. -/
theorem acc7_apply (hX : HoldsX m X) (hW : HoldsW m W) (c : Dev nD) (r : Fin 1024) (l : Fin 2048) :
    acc7 m ρ c (ix2 r l) = whole X W (ix2 (row c r) l) := by
  have h0 : acc1 m ρ c (ix2 r l) = part X W c c 0 r l + part X W c c 1 r l := by
    unfold acc1 acc0
    rw [own_apply, first_apply]
    simp only [xo_apply m ρ X hX, ws_apply m W hW]
    rfl
  have hs : ∀ (k : Fin 4) (b : Fin 2) (a : Vec Ideal S1024x2048 .f32),
      k0_pay9 (xs m ρ c k b) (ws m c k b) a (ix2 r l) = a (ix2 r l) + part X W c k b r l := fun k b a => by
    rw [step_apply]
    simp only [xs_apply m ρ X hX, ws_apply m W hW]
    rfl
  unfold acc7 acc6 acc5 acc4 acc3 acc2
  rw [hs, hs, hs, hs, hs, hs, h0, whole_apply, sum_blocks]
  rw [← sum_turn (fun k => ∑ t : Fin 512, X (ix2 (row c r) (col k 0 t)) * W (ix2 (col k 0 t) l)
    + ∑ t : Fin 512, X (ix2 (row c r) (col k 1 t)) * W (ix2 (col k 1 t) l)) c]
  unfold part
  simp only [add_assoc]

theorem outF_apply (hX : HoldsX m X) (hW : HoldsW m W) (c : Dev nD) (r : Fin 1024) (l : Fin 2048) :
    outF m ρ c (ix2 r l) = Cert.ReferenceIdeal.Gen.k0_pay1 (F := Ideal) (whole X W) (ix2 (row c r) l) := by
  have hm : ∀ p : Fin 4 × Fin 128, amF m ρ (ix2 p.1 p.2)
      = (Finset.univ : Finset (Fin 1024 × Fin 2048)).sup fun q =>
          (fun z : Fin 4096 × Fin 2048 => max (whole X W (ix2 z.1 z.2)) (-whole X W (ix2 z.1 z.2))) (row p.1 q.1, q.2) := fun p => by
    have h : amF m ρ (ix2 p.1 p.2) = k0_pay19 (acc7 m ρ p.1) (ix2 0 p.2) := by
      unfold amF
      refine congrArg (k0_pay19 (acc7 m ρ p.1)) ?_
      funext a
      match a with
      | ⟨0, _⟩ => rfl
      | ⟨1, _⟩ => rfl
    rw [h, max_apply]
    simp only [acc7_apply m ρ X W hX hW]
  unfold outF
  rw [out_apply, ref_apply, quant_eq, acc7_apply m ρ X W hX hW]
  refine congrArg (quantR _) ?_
  rw [← sup_rows]
  exact Finset.sup_congr rfl fun p _ => hm p

/-- What each device's result holds: its rows of the reference's. -/
theorem outF_eq (hX : HoldsX m X) (hW : HoldsW m W) (c : Dev nD) :
    outF m ρ c = Layout.block ⟨2, ![1024, 2048]⟩ ⟨2, ![4096, 2048]⟩ 0 4 c (Cert.ReferenceIdeal.Gen.k0_pay1 (F := Ideal) (whole X W)) := by
  funext i
  rw [Layout.block_apply]
  refine (congrArg (outF m ρ c) (eq_ix2 (n0 := 1024) (n1 := 2048) i)).trans ((outF_apply m ρ X W hX hW c _ _).trans
    (congrArg (Cert.ReferenceIdeal.Gen.k0_pay1 (F := Ideal) (whole X W)) ?_))
  funext a; apply Fin.ext
  match a with
  | ⟨0, _⟩ => show 1024 * c.val + (i 0).val = c.val * 1024 + (i 0).val; omega
  | ⟨1, _⟩ => rfl

end Cert.Proof.Run

end
-- ==== Proof.Reference.lean ====
/-
# The reference's result

The host takes the product of the whole arrays, and the one call quantises it.
-/
module

public import proofs.«01_k».proof.Proof.Value

@[expose] public section

noncomputable section

namespace Cert.Proof.Ref

open Cert.ReferenceIdeal Cert.ReferenceIdeal.Gen Cert.ReferenceIdeal.Value
open Idealize.ShloMosaic Idealize.ShloMosaic.TcCoe
open Idealize.SL.Sem

variable (m : (ℓ : Loc nD τ sig) → Buf (Elt Ideal) ℓ) (ρ : Dev nD → PrngReg)

theorem product (c : Dev nD) : V m c main_v0 = Cert.Proof.Math.whole (m ((c : Thread nD τ).loc main_arg0)) (m ((c : Thread nD τ).loc main_arg1)) := by
  rfl

theorem place (i : S4096x2048.Idx) : r0_0.emb i = i := by
  funext a; apply Fin.ext
  match a with
  | ⟨0, _⟩ => show 0 + 1 * (i 0).val = (i 0).val; omega
  | ⟨1, _⟩ => show 0 + 1 * (i 1).val = (i 1).val; omega

/-- The load reads all of the buffer. -/
theorem loaded (y : Vec Ideal S4096x2048 .f32) : View.ld y r0_0 = y := funext fun i => congrArg y (place i)

/-- The one store covers the buffer. -/
theorem stored (w : Vec Ideal S4096x2048 .f32) : View.canon (Val := Elt Ideal) [⟨r0_0, w⟩] = w := by
  funext i
  have h := View.canon_cons_emb (Val := Elt Ideal) r0_0 w [] i
  rw [place i] at h
  exact h

theorem written (y : Vec Ideal S4096x2048 .f32) : out0_1 y = k0_pay1 (F := Ideal) y := by
  unfold out0_1
  rw [stored, loaded]

theorem result (c : Dev nD) : (dats m 0 c).arrAt (1 : Fin 2) cfg0.N
    = k0_pay1 (F := Ideal) (Cert.Proof.Math.whole (m ((c : Thread nD τ).loc main_arg0)) (m ((c : Thread nD τ).loc main_arg1))) := by
  have h := (blocks1 m c t0_0 (flush0_1 _)).trans (flushed1 m c t0_0)
  have hi : ∀ i : S4096x2048.Idx, ((cfg0.win (1 : Fin 2)).blk t0_0).view.emb i = i := fun i => by
    funext a; apply Fin.ext
    match a with
    | ⟨0, _⟩ => show 0 * 4096 + 1 * (i 0).val = (i 0).val; omega
    | ⟨1, _⟩ => show 0 * 2048 + 1 * (i 1).val = (i 1).val; omega
  have hb : iblk m c 0 t0_0 = V m c main_v0 := by
    funext i
    exact congrArg (V m c main_v0) (hi i)
  have ho : out0_1 (iblk m c 0 t0_0) = k0_pay1 (F := Ideal) (V m c main_v0) := by
    rw [hb]
    exact written _
  funext i
  rw [← product]
  refine (congrArg ((dats m 0 c).arrAt (1 : Fin 2) cfg0.N) (hi i)).symm.trans ((congrFun h i).trans ?_)
  rw [ho]

/-- The run of the reference, its end read at the arrays. -/
theorem run : θ_run defs (onTc (τ := τ) (main (F := Ideal))) ⟨m, fun _ => 0, ρ⟩ fun r => ∀ c : Dev nD,
    r.2.mem ((c : Thread nD τ).loc main_v1)
        = k0_pay1 (F := Ideal) (Cert.Proof.Math.whole (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result m c), (h c).2⟩) (run_blocks m ρ)

end Cert.Proof.Ref

namespace Cert.Proof

open Idealize.ShloMosaic Idealize.ShloMosaic.TcCoe Idealize.SL.Sem

theorem same_value : Cert.algebraic_KernelIdeal_ReferenceIdeal (hKernelIdeal := Cert.KernelIdeal.Gen.facts)
    (hReferenceIdeal := Cert.ReferenceIdeal.Gen.facts) := fun m g m' g' _ hargs =>
  ⟨_, (θ_run _ _ _).mono (fun _ h c => ⟨((h.1 c).1).trans
      (Run.outF_eq m g _ _ (fun d => (hargs d).1) (fun d => (hargs d).2) c), (h.1 c).2⟩) (Run.run_ends m g),
    (θ_run _ _ _).mono (fun _ h => h 0) (Ref.run m' g')⟩

end Cert.Proof

end
-- ==== Proof.lean ====
/-
# The certificate

The five claims, each from the module that proves it: the three frames, the named constant, and the equality of the
kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  frame_bits, frame_ideal, frame_ref, named, same_value⟩

end Cert.Proof

end
